-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_n" .f32 0x3917B426#32 ((1 / 6912 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_v5_2) = v2 c
          ∧ r.2.mem ((c.tc : Thread Cert.ReferenceIdeal.nD Cert.ReferenceIdeal.τ).loc Cert.ReferenceIdeal.main_v5_3) = v3 c
          ∧ r.2.mem ((c.tc : Thread Cert.ReferenceIdeal.nD Cert.ReferenceIdeal.τ).loc Cert.ReferenceIdeal.main_v5_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x4096x5120 : Shape := ⟨3, ![2, 4096, 5120]⟩
abbrev S2x4096x6912 : Shape := ⟨3, ![2, 4096, 6912]⟩
abbrev S6912x5120 : Shape := ⟨2, ![6912, 5120]⟩
abbrev S6912 : Shape := ⟨1, ![6912]⟩
abbrev S_ : Shape := ⟨0, ![]⟩

class Facts : Prop where
  bcast_S_S2x4096x5120 : S_.BroadcastsInDim S2x4096x5120 (![] : Fin 0 → Fin S2x4096x5120.rank)
  bcast_S_S6912 : S_.BroadcastsInDim S6912 (![] : Fin 0 → Fin S6912.rank)

variable [Facts]

def fn {F : FTy → Type} [FloatOps F] (main_arg0 : FVec F S2x4096x5120 .bf16) (main_arg1 : FVec F S2x4096x6912 .bf16) (main_arg2 : FVec F S6912x5120 .fp8e4m3) (main_arg3 : FVec F S6912 .f32) (main_arg4 : FVec F S6912 .f32) (main_arg5 : FVec F S6912 .f32) : IVec S2x4096x5120 1 × IVec S6912 1 :=
  let main_v0 : FVec F S2x4096x5120 .bf16 := Host.absf main_arg0
  let main_cst : FVec F S_ .bf16 := constant S_ .bf16 0x7F7F#16
  let main_v1 : FVec F S2x4096x5120 .bf16 := broadcastInDim S2x4096x5120 ![] bcast_S_S2x4096x5120 main_cst
  let main_v2 : IVec S2x4096x5120 1 := cmpf .ole main_v0 main_v1
  let main_v3 : FVec F S6912 .f32 := Host.absf main_arg5
  let main_cst_0 : FVec F S_ .f32 := constant S_ .f32 0x7F7FFFFF#32
  let main_v4 : FVec F S6912 .f32 := broadcastInDim S6912 ![] bcast_S_S6912 main_cst_0
  let main_v5 : IVec S6912 1 := cmpf .ole main_v3 main_v4
  (main_v2, main_v5)
-- ==== Kernel.lean ====
abbrev S2x4096x5120 : Shape := ⟨3, ![2, 4096, 5120]⟩
abbrev S2x4096x6912 : Shape := ⟨3, ![2, 4096, 6912]⟩
abbrev S6912x5120 : Shape := ⟨2, ![6912, 5120]⟩
abbrev S6912 : Shape := ⟨1, ![6912]⟩
abbrev S8192x5120 : Shape := ⟨2, ![8192, 5120]⟩
abbrev S8192x6912 : Shape := ⟨2, ![8192, 6912]⟩
abbrev S1x6912 : Shape := ⟨2, ![1, 6912]⟩
abbrev S8192x1 : Shape := ⟨2, ![8192, 1]⟩
abbrev S128x5120 : Shape := ⟨2, ![128, 5120]⟩
abbrev S128x6912 : Shape := ⟨2, ![128, 6912]⟩
abbrev S128x1 : Shape := ⟨2, ![128, 1]⟩
abbrev S128 : Shape := ⟨1, ![128]⟩
abbrev S128x128 : Shape := ⟨2, ![128, 128]⟩
abbrev S768x5120 : Shape := ⟨2, ![768, 5120]⟩
abbrev S128x768 : Shape := ⟨2, ![128, 768]⟩
abbrev S1x768 : Shape := ⟨2, ![1, 768]⟩
abbrev S1x128 : Shape := ⟨2, ![1, 128]⟩

abbrev nBuf : Space → Nat
  | .hbm => 16
  | .vmem => 19
  | .smem => 0
  | _ => 0

abbrev bufTy : (tb : Table) → Fin (tcTables nBuf tb) → BufTy
  | .hbm, ⟨0, _⟩ => ⟨S2x4096x5120, .bf16⟩
  | .hbm, ⟨1, _⟩ => ⟨S2x4096x6912, .bf16⟩
  | .hbm, ⟨2, _⟩ => ⟨S6912x5120, .fp8e4m3⟩
  | .hbm, ⟨3, _⟩ => ⟨S6912, .f32⟩
  | .hbm, ⟨4, _⟩ => ⟨S6912, .f32⟩
  | .hbm, ⟨5, _⟩ => ⟨S6912, .f32⟩
  | .hbm, ⟨6, _⟩ => ⟨S8192x5120, .bf16⟩
  | .hbm, ⟨7, _⟩ => ⟨S8192x6912, .bf16⟩
  | .hbm, ⟨8, _⟩ => ⟨S1x6912, .f32⟩
  | .hbm, ⟨9, _⟩ => ⟨S1x6912, .f32⟩
  | .hbm, ⟨10, _⟩ => ⟨S1x6912, .f32⟩
  | .hbm, ⟨11, _⟩ => ⟨S8192x6912, .bf16⟩
  | .hbm, ⟨12, _⟩ => ⟨S8192x5120, .fp8e4m3⟩
  | .hbm, ⟨13, _⟩ => ⟨S8192x1, .f32⟩
  | .hbm, ⟨14, _⟩ => ⟨S8192x6912, .fp8e4m3⟩
  | .hbm, ⟨15, _⟩ => ⟨S8192x1, .f32⟩
  | .local _ .vmem, ⟨0, _⟩ => ⟨S128x5120, .bf16⟩
  | .local _ .vmem, ⟨1, _⟩ => ⟨S128x5120, .bf16⟩
  | .local _ .vmem, ⟨2, _⟩ => ⟨S128x6912, .bf16⟩
  | .local _ .vmem, ⟨3, _⟩ => ⟨S128x6912, .bf16⟩
  | .local _ .vmem, ⟨4, _⟩ => ⟨S6912x5120, .fp8e4m3⟩
  | .local _ .vmem, ⟨5, _⟩ => ⟨S1x6912, .f32⟩
  | .local _ .vmem, ⟨6, _⟩ => ⟨S1x6912, .f32⟩
  | .local _ .vmem, ⟨7, _⟩ => ⟨S1x6912, .f32⟩
  | .local _ .vmem, ⟨8, _⟩ => ⟨S128x6912, .bf16⟩
  | .local _ .vmem, ⟨9, _⟩ => ⟨S128x6912, .bf16⟩
  | .local _ .vmem, ⟨10, _⟩ => ⟨S128x5120, .fp8e4m3⟩
  | .local _ .vmem, ⟨11, _⟩ => ⟨S128x5120, .fp8e4m3⟩
  | .local _ .vmem, ⟨12, _⟩ => ⟨S128x1, .f32⟩
  | .local _ .vmem, ⟨13, _⟩ => ⟨S128x1, .f32⟩
  | .local _ .vmem, ⟨14, _⟩ => ⟨S128x6912, .fp8e4m3⟩
  | .local _ .vmem, ⟨15, _⟩ => ⟨S128x6912, .fp8e4m3⟩
  | .local _ .vmem, ⟨16, _⟩ => ⟨S128x1, .f32⟩
  | .local _ .vmem, ⟨17, _⟩ => ⟨S128x1, .f32⟩
  | .local _ .vmem, ⟨18, _⟩ => ⟨S128x6912, .f32⟩
  | _, _ => ⟨S2x4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x6912 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6912x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x6912 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x6912 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x6912 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x6912 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x5120 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x6912 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "inv_n" => some ((1 / 6912 : ℝ) : EReal)
  | _ => none
-- ==== ReferenceIdeal.lean ====
abbrev S2x4096x5120 : Shape := ⟨3, ![2, 4096, 5120]⟩
abbrev S2x4096x6912 : Shape := ⟨3, ![2, 4096, 6912]⟩
abbrev S6912x5120 : Shape := ⟨2, ![6912, 5120]⟩
abbrev S6912 : Shape := ⟨1, ![6912]⟩
abbrev S8192x5120 : Shape := ⟨2, ![8192, 5120]⟩
abbrev S8192x6912 : Shape := ⟨2, ![8192, 6912]⟩
abbrev S1x6912 : Shape := ⟨2, ![1, 6912]⟩
abbrev S8192x1 : Shape := ⟨2, ![8192, 1]⟩
abbrev S8192 : Shape := ⟨1, ![8192]⟩
abbrev S1x253 : Shape := ⟨2, ![1, 253]⟩
abbrev S8192x253 : Shape := ⟨2, ![8192, 253]⟩

abbrev nBuf : Space → Nat
  | .hbm => 16
  | .vmem => 11
  | .smem => 0
  | _ => 0

abbrev bufTy : (tb : Table) → Fin (tcTables nBuf tb) → BufTy
  | .hbm, ⟨0, _⟩ => ⟨S2x4096x5120, .bf16⟩
  | .hbm, ⟨1, _⟩ => ⟨S2x4096x6912, .bf16⟩
  | .hbm, ⟨2, _⟩ => ⟨S6912x5120, .fp8e4m3⟩
  | .hbm, ⟨3, _⟩ => ⟨S6912, .f32⟩
  | .hbm, ⟨4, _⟩ => ⟨S6912, .f32⟩
  | .hbm, ⟨5, _⟩ => ⟨S6912, .f32⟩
  | .hbm, ⟨6, _⟩ => ⟨S8192x5120, .bf16⟩
  | .hbm, ⟨7, _⟩ => ⟨S8192x6912, .bf16⟩
  | .hbm, ⟨8, _⟩ => ⟨S1x6912, .f32⟩
  | .hbm, ⟨9, _⟩ => ⟨S1x6912, .f32⟩
  | .hbm, ⟨10, _⟩ => ⟨S1x6912, .f32⟩
  | .hbm, ⟨11, _⟩ => ⟨S8192x6912, .bf16⟩
  | .hbm, ⟨12, _⟩ => ⟨S8192x5120, .fp8e4m3⟩
  | .hbm, ⟨13, _⟩ => ⟨S8192x1, .f32⟩
  | .hbm, ⟨14, _⟩ => ⟨S8192x6912, .fp8e4m3⟩
  | .hbm, ⟨15, _⟩ => ⟨S8192x1, .f32⟩
  | .local _ .vmem, ⟨0, _⟩ => ⟨S8192x5120, .bf16⟩
  | .local _ .vmem, ⟨1, _⟩ => ⟨S8192x6912, .bf16⟩
  | .local _ .vmem, ⟨2, _⟩ => ⟨S6912x5120, .fp8e4m3⟩
  | .local _ .vmem, ⟨3, _⟩ => ⟨S1x6912, .f32⟩
  | .local _ .vmem, ⟨4, _⟩ => ⟨S1x6912, .f32⟩
  | .local _ .vmem, ⟨5, _⟩ => ⟨S1x6912, .f32⟩
  | .local _ .vmem, ⟨6, _⟩ => ⟨S8192x6912, .bf16⟩
  | .local _ .vmem, ⟨7, _⟩ => ⟨S8192x5120, .fp8e4m3⟩
  | .local _ .vmem, ⟨8, _⟩ => ⟨S8192x1, .f32⟩
  | .local _ .vmem, ⟨9, _⟩ => ⟨S8192x6912, .fp8e4m3⟩
  | .local _ .vmem, ⟨10, _⟩ => ⟨S8192x1, .f32⟩
  | _, _ => ⟨S2x4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S8192x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x6912 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6912x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x6912 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x6912 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x6912 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x6912 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x5120 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8192x6912 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8192x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Block.lean ====
/- One grid point of the kernel, told chunk by chunk: the 9 blocks of the product, the 54 column chunks of each later
   pass, as functions of the chunk's number; and that the pieces the run leaves in its five outputs are these. -/
module

public import proofs.«01_k».proof.Proof.Gen.KernelIdeal.Frame

@[expose] public section

set_option maxRecDepth 16384

noncomputable section

namespace Cert.Block

open Idealize.ShloMosaic Idealize.ShloMosaic.TcCoe
open Cert.KernelIdeal Cert.KernelIdeal.Gen

variable {F : FTy → Type} [FloatOps F] [Named F]

/-- What the body reads: the input blocks by chunk, and what a load of a chunk of its own earlier stores gives. -/
structure Loads (F : FTy → Type) where
  x : Vec F S128x5120 .bf16
  w : ℕ → Vec F S768x5120 .fp8e4m3
  ws : ℕ → Vec F S1x768 .f32
  gp : ℕ → Vec F S1x128 .f32
  res : ℕ → Vec F S128x128 .bf16
  gq : ℕ → Vec F S1x128 .f32
  backX : List (View.Piece (Elt F) S128x5120 .fp8e4m3) → Vec F S128x5120 .fp8e4m3
  backY : List (View.Piece (Elt F) S128x6912 .f32) → ℕ → Vec F S128x128 .f32
  backH : List (View.Piece (Elt F) S128x6912 .bf16) → ℕ → Vec F S128x128 .bf16

/-- Chunk `c` lies in the row. -/
theorem in54 (c : ℕ) : 128 * (c % 54) + 128 ≤ 6912 := by omega
/-- Column block `n` lies in the row. -/
theorem in9 (n : ℕ) : 768 * (n % 9) + 768 ≤ 6912 := by omega
/-- Chunk `c` of a column block lies in it. -/
theorem in6 (c : ℕ) : 128 * (c % 6) + 128 ≤ 768 := by omega

/-- The rectangle of column chunk `c` in a block of 128 rows. -/
theorem inbChunk (c : ℕ) : ∀ a, (![0, 128 * (c % 54)] : Fin 2 → Nat) a + S128x128.size a ≤ S128x6912.size a :=
  Fin.forall_fin_two.mpr ⟨le_refl _, in54 c⟩
/-- The columns of chunk `c` of a block. -/
abbrev chunk (c : ℕ) : Rect S128x6912 := Rect.unit ![0, 128 * (c % 54)] S128x128.size (inbChunk c)

/-- The rectangle of column chunk `c` in a row vector. -/
theorem inbRow (c : ℕ) : ∀ a, (![0, 128 * (c % 54)] : Fin 2 → Nat) a + S1x128.size a ≤ S1x6912.size a :=
  Fin.forall_fin_two.mpr ⟨le_refl _, in54 c⟩
/-- The columns of chunk `c` of a row of weights. -/
abbrev rowChunk (c : ℕ) : Rect S1x6912 := Rect.unit ![0, 128 * (c % 54)] S1x128.size (inbRow c)

/-- The rectangle of the product's block `n` (768 columns). -/
theorem inbY (n : ℕ) : ∀ a, (![0, 768 * (n % 9)] : Fin 2 → Nat) a + S128x768.size a ≤ S128x6912.size a :=
  Fin.forall_fin_two.mpr ⟨le_refl _, in9 n⟩
/-- The columns of column block `n`. -/
abbrev yRect (n : ℕ) : Rect S128x6912 := Rect.unit ![0, 768 * (n % 9)] S128x768.size (inbY n)

/-- The weights' rows of block `n`, and their scales. -/
theorem inbW (n : ℕ) : ∀ a, (![768 * (n % 9), 0] : Fin 2 → Nat) a + S768x5120.size a ≤ S6912x5120.size a :=
  Fin.forall_fin_two.mpr ⟨in9 n, le_refl _⟩
/-- The rows of the weights for column block `n`. -/
abbrev wRect (n : ℕ) : Rect S6912x5120 := Rect.unit ![768 * (n % 9), 0] S768x5120.size (inbW n)
/-- The weights' scales of column block `n` lie in their row. -/
theorem inbWs (n : ℕ) : ∀ a, (![0, 768 * (n % 9)] : Fin 2 → Nat) a + S1x768.size a ≤ S1x6912.size a :=
  Fin.forall_fin_two.mpr ⟨le_refl _, in9 n⟩
/-- The weights' scales of column block `n`. -/
abbrev wsRect (n : ℕ) : Rect S1x6912 := Rect.unit ![0, 768 * (n % 9)] S1x768.size (inbWs n)

/-- The whole blocks. -/
theorem inbX : ∀ a, (![0, 0] : Fin 2 → Nat) a + S128x5120.size a ≤ S128x5120.size a := by decide
/-- The whole input block. -/
abbrev xRect : Rect S128x5120 := Rect.unit ![0, 0] S128x5120.size inbX
/-- The column of scales lies in itself. -/
theorem inbS : ∀ a, (![0, 0] : Fin 2 → Nat) a + S128x1.size a ≤ S128x1.size a := by decide
/-- The whole column of scales. -/
abbrev sRect : Rect S128x1 := Rect.unit ![0, 0] S128x1.size inbS

/-- Chunk `c` is a slice of its column block. -/
theorem slices6 (c : ℕ) : S128x768.Slices ![0, 128 * (c % 6)] S128x128 :=
  ⟨rfl, Fin.forall_fin_two.mpr ⟨le_refl _, in6 c⟩⟩

/-- The first `n` stores of a pass, newest first. -/
def stack {s : Shape} {e : EltTy} (P : ℕ → View.Piece (Elt F) s e) (n : ℕ) : List (View.Piece (Elt F) s e) :=
  Nat.rec [] (fun k L => P k :: L) n

/-- A lane-wise running sum over chunks, from zero; and a running maximum. -/
def sums (f : ℕ → FVec F S128x128 .f32) (n : ℕ) : FVec F S128x128 .f32 :=
  Nat.rec (broadcast S128x128 (Scalar.ofBits .f32 0x00000000#32)) (fun k a => addf a (f k)) n
/-- Maxima accumulated over the first `n` chunks. -/
def maxs (f : ℕ → FVec F S128x128 .f32) (n : ℕ) : FVec F S128x128 .f32 :=
  Nat.rec (broadcast S128x128 (Scalar.ofBits .f32 0x00000000#32)) (fun k a => maximumf a (f k)) n

/-- One step of the search for a column's exponent field: `b` is added where the value reaches the float of that field. -/
def stepOf (t : FVec F S128x1 .f32) (b : BitVec 32) (s : IVec S128x1 32) : IVec S128x1 32 :=
  select (cmpf .olt t (bitcastToFloat .f32 (shli (addi s (broadcast S128x1 b)) (broadcast S128x1 23#32)))) s
    (addi s (broadcast S128x1 b))

/-- The first five steps. -/
def search (t : FVec F S128x1 .f32) : IVec S128x1 32 :=
  stepOf t 8#32 (stepOf t 16#32 (stepOf t 32#32 (stepOf t 64#32 (stepOf t 128#32 (broadcast S128x1 0#32)))))

/-- The scale's exponent, from the found field. -/
def expOf (s : IVec S128x1 32) : IVec S128x1 32 :=
  select (cmpi .eq s (broadcast S128x1 0#32)) (broadcast S128x1 0#32) (subi s (broadcast S128x1 126#32))

/-- The remaining steps give it. -/
theorem pay5_eq (t : FVec F S128x1 .f32) (s : IVec S128x1 32) :
    k0_pay5 t s = expOf (stepOf t 1#32 (stepOf t 2#32 (stepOf t 4#32 s))) := rfl

/-- The scale of a column of quotients, and its reciprocal. -/
def upOf (t : FVec F S128x1 .f32) : FVec F S128x1 .f32 := k0_pay6 t (search t)
/-- The reciprocal scales of quotients. -/
def downOf (t : FVec F S128x1 .f32) : FVec F S128x1 .f32 :=
  bitcastToFloat .f32 (shli (subi (broadcast S128x1 127#32) (k0_pay5 t (search t))) (broadcast S128x1 23#32))

/-- The reciprocal root of a row's mean square, from the lane-wise sums of squares. -/
def rmsOf (ss : FVec F S128x128 .f32) : FVec F S128x1 .f32 :=
  rsqrt (addf (mulf (shapeCast S128x1 (multiReduction .add [1] S128 ss 0x00000000#32 reduces_S128x128_S128 (.inl rfl) rfl)
      shapeCasts_S128_S128x1) (broadcast S128x1 (Named.named κ "inv_n" 0x3917B426#32)))
    (broadcast S128x1 (Scalar.ofBits .f32 0x358637BD#32)))

namespace Loads

variable (l : Loads F)

/-- The codes of the input, its scale, and the codes as loaded back. -/
def xcode : FVec F S128x5120 .fp8e4m3 := k0_pay7 (k0_pay2 l.x) (k0_pay3 l.x) (search (k0_pay3 l.x))
/-- The scales of the input's rows. -/
def xscale : FVec F S128x1 .f32 := upOf (k0_pay3 l.x)
/-- The codes of the input, read back. -/
def xback : FVec F S128x5120 .fp8e4m3 := k0_pay8 (l.backX [⟨xRect, l.xcode⟩])

/-- Block `n` of the product. -/
def yblk (n : ℕ) : FVec F S128x768 .f32 := k0_pay15 l.xscale l.xback (l.w n) (l.ws n)
/-- The stored product of column block `n`. -/
def ypiece (n : ℕ) : View.Piece (Elt F) S128x6912 .f32 :=
  ⟨yRect n, shapeCast S128x768 (l.yblk n) shapeCasts_S128x768_S128x768⟩

/-- Chunk `c` of the product as its sum of squares takes it. -/
def yslice (c : ℕ) : FVec F S128x128 .f32 :=
  extractStridedSlice S128x128 ![0, 128 * (c % 6)] (l.yblk (c / 6)) (slices6 c)
/-- The reciprocal root mean squares of the products. -/
def yrms : FVec F S128x1 .f32 := rmsOf (sums (fun c => mulf (l.yslice c) (l.yslice c)) 54)

/-- Chunk `c` of the normed product plus the residual. -/
def hchunk (c : ℕ) : FVec F S128x128 .bf16 := k0_pay38 l.yrms (l.backY (stack l.ypiece 9) c) (l.gp c) (l.res c)
/-- The stored sum of chunk `c`. -/
def hpiece (c : ℕ) : View.Piece (Elt F) S128x6912 .bf16 := ⟨chunk c, l.hchunk c⟩
/-- The squares of the sum in chunk `c`. -/
def hsq (c : ℕ) : FVec F S128x128 .f32 :=
  mulf (extf .f32 (l.hchunk c) bitsLt_bf16_f32) (extf .f32 (l.hchunk c) bitsLt_bf16_f32)
/-- The reciprocal root mean squares of the sum. -/
def hrms : FVec F S128x1 .f32 := rmsOf (sums l.hsq 54)

/-- Chunk `c` of the sum as loaded back, and its second norm. -/
def hback (c : ℕ) : Vec F S128x128 .bf16 := l.backH (stack l.hpiece 54) c
/-- The next normed rows in chunk `c`. -/
def zchunk (c : ℕ) : FVec F S128x128 .f32 :=
  mulf (mulf (extf .f32 (shapeCast S128x128 (l.hback c) shapeCasts_S128x128_S128x128) bitsLt_bf16_f32)
      (broadcastTo S128x128 l.hrms broadcasts_S128x1_S128x128))
    (broadcastTo S128x128 (addf (broadcast S1x128 (Scalar.ofBits .f32 0x3F800000#32))
      (shapeCast S1x128 (l.gq c) shapeCasts_S1x128_S1x128)) broadcasts_S1x128_S128x128)
/-- The quotients of the next normed rows. -/
def zquot : FVec F S128x1 .f32 :=
  mulf (shapeCast S128x1 (multiReduction .maximumf [1] S128 (maxs (fun c => absf (l.zchunk c)) 54) 0xFF800000#32
      reduces_S128x128_S128 (.inl rfl) rfl) shapeCasts_S128_S128x1)
    (broadcast S128x1 (Scalar.ofBits .f32 0x3B124925#32))
/-- The last codes of chunk `c`. -/
def zcode (c : ℕ) : FVec F S128x128 .fp8e4m3 := k0_pay1 l.hrms (downOf l.zquot) (l.hback c) (l.gq c)
/-- The stored last codes of chunk `c`. -/
def zpiece (c : ℕ) : View.Piece (Elt F) S128x6912 .fp8e4m3 := ⟨chunk c, l.zcode c⟩

end Loads

section Run

variable (c : Dev nD) (i : grid0.Coords) (arg1 : Memref sig .tc .vmem S128x5120 .bf16) (harg1 : arg1.IsWhole) (arg2 : Memref sig .tc .vmem S128x6912 .bf16) (harg2 : arg2.IsWhole) (arg3 : Memref sig .tc .vmem S6912x5120 .fp8e4m3) (harg3 : arg3.IsWhole) (arg4 : Memref sig .tc .vmem S1x6912 .f32) (harg4 : arg4.IsWhole) (arg5 : Memref sig .tc .vmem S1x6912 .f32) (harg5 : arg5.IsWhole) (arg6 : Memref sig .tc .vmem S1x6912 .f32) (harg6 : arg6.IsWhole) (arg7 : Memref sig .tc .vmem S128x6912 .bf16) (harg7 : arg7.IsWhole) (arg8 : Memref sig .tc .vmem S128x5120 .fp8e4m3) (harg8 : arg8.IsWhole) (arg9 : Memref sig .tc .vmem S128x1 .f32) (harg9 : arg9.IsWhole) (arg10 : Memref sig .tc .vmem S128x6912 .fp8e4m3) (harg10 : arg10.IsWhole) (arg11 : Memref sig .tc .vmem S128x1 .f32) (harg11 : arg11.IsWhole) (arg12 : Memref sig .tc .vmem S128x6912 .f32) (harg12 : arg12.IsWhole)
  (x0 : Vec F S128x5120 .bf16) (x1 : Vec F S128x6912 .bf16) (x2 : Vec F S6912x5120 .fp8e4m3) (x3 : Vec F S1x6912 .f32) (x4 : Vec F S1x6912 .f32) (x5 : Vec F S1x6912 .f32)

/-- The loads of a run on whole memrefs holding the blocks `x0 … x5`. -/
def loads : Loads F where
  x := View.readAt (Elt F) arg1.view xRect.toLoadRect (harg1.unread x0)
  w n := View.readAt (Elt F) arg3.view (wRect n).toLoadRect (harg3.unread x2)
  ws n := View.readAt (Elt F) arg4.view (wsRect n).toLoadRect (harg4.unread x3)
  gp n := View.readAt (Elt F) arg5.view (rowChunk n).toLoadRect (harg5.unread x4)
  res n := View.readAt (Elt F) arg2.view (chunk n).toLoadRect (harg2.unread x1)
  gq n := View.readAt (Elt F) arg6.view (rowChunk n).toLoadRect (harg6.unread x5)
  backX L := arg8.view.readCov L xRect.toLoadRect
  backY L n := arg12.view.readCov L (chunk n).toLoadRect
  backH L n := arg7.view.readCov L (chunk n).toLoadRect

/-- The codes of the input are stored whole, -/
theorem run_xcode : (kernelRun0_A c i arg1 harg1 arg2 harg2 arg3 harg3 arg4 harg4 arg5 harg5 arg6 harg6 arg7 harg7 arg8 harg8 arg9 harg9 arg10 harg10 arg11 harg11 arg12 harg12 x0 x1 x2 x3 x4 x5).2.1 = [⟨xRect, (loads arg1 harg1 arg2 harg2 arg3 harg3 arg4 harg4 arg5 harg5 arg6 harg6 arg7 arg8 arg12 x0 x1 x2 x3 x4 x5).xcode⟩] := by sl_kernel_rfl
/-- and their scale; -/
theorem run_xscale : (kernelRun0_A c i arg1 harg1 arg2 harg2 arg3 harg3 arg4 harg4 arg5 harg5 arg6 harg6 arg7 harg7 arg8 harg8 arg9 harg9 arg10 harg10 arg11 harg11 arg12 harg12 x0 x1 x2 x3 x4 x5).2.2.1 = [⟨sRect, (loads arg1 harg1 arg2 harg2 arg3 harg3 arg4 harg4 arg5 harg5 arg6 harg6 arg7 arg8 arg12 x0 x1 x2 x3 x4 x5).xscale⟩] := by sl_kernel_rfl
/-- the product is kept block by block, -/
theorem run_y : (kernelRun0_A c i arg1 harg1 arg2 harg2 arg3 harg3 arg4 harg4 arg5 harg5 arg6 harg6 arg7 harg7 arg8 harg8 arg9 harg9 arg10 harg10 arg11 harg11 arg12 harg12 x0 x1 x2 x3 x4 x5).2.2.2.2.2.1 = stack (loads arg1 harg1 arg2 harg2 arg3 harg3 arg4 harg4 arg5 harg5 arg6 harg6 arg7 arg8 arg12 x0 x1 x2 x3 x4 x5).ypiece 9 := by sl_kernel_rfl
/-- the sum of its norm and the residual is stored chunk by chunk, -/
theorem run_h : (kernelRun0_A c i arg1 harg1 arg2 harg2 arg3 harg3 arg4 harg4 arg5 harg5 arg6 harg6 arg7 harg7 arg8 harg8 arg9 harg9 arg10 harg10 arg11 harg11 arg12 harg12 x0 x1 x2 x3 x4 x5).1 = stack (loads arg1 harg1 arg2 harg2 arg3 harg3 arg4 harg4 arg5 harg5 arg6 harg6 arg7 arg8 arg12 x0 x1 x2 x3 x4 x5).hpiece 54 := by sl_kernel_rfl
/-- the scale of the second norm whole, -/
theorem run_zscale : (kernelRun0_A c i arg1 harg1 arg2 harg2 arg3 harg3 arg4 harg4 arg5 harg5 arg6 harg6 arg7 harg7 arg8 harg8 arg9 harg9 arg10 harg10 arg11 harg11 arg12 harg12 x0 x1 x2 x3 x4 x5).2.2.2.2.1 = [⟨sRect, upOf (loads arg1 harg1 arg2 harg2 arg3 harg3 arg4 harg4 arg5 harg5 arg6 harg6 arg7 arg8 arg12 x0 x1 x2 x3 x4 x5).zquot⟩] := by sl_kernel_rfl
/-- and its codes chunk by chunk. -/
theorem run_z : (kernelRun0_A c i arg1 harg1 arg2 harg2 arg3 harg3 arg4 harg4 arg5 harg5 arg6 harg6 arg7 harg7 arg8 harg8 arg9 harg9 arg10 harg10 arg11 harg11 arg12 harg12 x0 x1 x2 x3 x4 x5).2.2.2.1 = stack (loads arg1 harg1 arg2 harg2 arg3 harg3 arg4 harg4 arg5 harg5 arg6 harg6 arg7 arg8 arg12 x0 x1 x2 x3 x4 x5).zpiece 54 := by sl_kernel_rfl

end Run

end Cert.Block
-- ==== Proof.Exponent.lean ====
/- The power-of-two scale over the extended reals: the kernel finds the exponent of a row's largest magnitude by a
   binary search over the patterns of powers of two, the reference takes the least power of two above it. -/
module

public import Idealize.ShloMosaic.PureOps.Ideal

@[expose] public section

noncomputable section

namespace Cert.Exponent

open Idealize.ShloMosaic

/-- The extended real that the f32 pattern with exponent field `c` and no fraction denotes. -/
def thr (c : BitVec 32) : EReal := Ideal.ofBits .f32 (c <<< (23 : Nat))

/-- The pattern of exponent field `n`, for `0 < n < 255`, is the power of two `2 ^ (n - 127)`. -/
theorem thr_eq (n : ℕ) (h0 : 0 < n) (h1 : n < 255) : thr (BitVec.ofNat 32 n) = (((2 : ℝ) ^ ((n : ℤ) - 127) : ℝ) : EReal) := by
  have hb : ∀ n : Fin 255, 0 < n.val → ((BitVec.ofNat 32 n.val <<< (23 : Nat)).extractLsb' 31 1 = 0#1)
      ∧ ((BitVec.ofNat 32 n.val <<< (23 : Nat)).extractLsb' 23 8).toNat = n.val
      ∧ ((BitVec.ofNat 32 n.val <<< (23 : Nat)).extractLsb' 0 23).toNat = 0 := by decide +kernel
  obtain ⟨hs, he, hf⟩ := hb ⟨n, h1⟩ h0
  dsimp only at hs he hf
  unfold thr
  simp only [Ideal.ofBits, Ideal.ieee]
  norm_num only
  rw [hs, he, hf]
  rw [if_neg (by omega), if_neg (by omega)]
  norm_num
  have e : (8388608 : ℝ) * (2 : ℝ) ^ ((n : ℤ) - 127 - 23) = (2 : ℝ) ^ ((n : ℤ) - 127) := by
    have h8 : (8388608 : ℝ) = (2 : ℝ) ^ (23 : ℤ) := by norm_num
    have hz : (23 : ℤ) + ((n : ℤ) - 127 - 23) = (n : ℤ) - 127 := by omega
    simp only [h8, ← zpow_add₀ (two_ne_zero : (2 : ℝ) ≠ 0), hz]
  exact (EReal.coe_mul _ _).symm.trans (congrArg _ e)

/-- One step of the search: keep the candidate `c + b` unless `t` lies below its power of two. -/
def step (t : EReal) (b c : BitVec 32) : BitVec 32 := if t < thr (c + b) then c else c + b

/-- The search: the exponent field found, bit by bit from the highest. -/
def field (t : EReal) : BitVec 32 :=
  step t 1#32 (step t 2#32 (step t 4#32 (step t 8#32 (step t 16#32 (step t 32#32 (step t 64#32 (step t 128#32 0#32)))))))

/-- The threshold of the zero field is zero. -/
theorem thr_zero : thr 0#32 = 0 := by
  simp [thr, Ideal.ofBits, Ideal.ieee]

/-- The threshold of the full field is infinity. -/
theorem thr_top : thr 255#32 = ⊤ := by
  simp [thr, Ideal.ofBits, Ideal.ieee]

/-- The powers of two grow with the exponent field. -/
theorem thr_mono {a b : ℕ} (hab : a ≤ b) (hb : b ≤ 255) : thr (BitVec.ofNat 32 a) ≤ thr (BitVec.ofNat 32 b) := by
  rcases Nat.eq_or_lt_of_le hb with rfl | hb'
  · rw [show BitVec.ofNat 32 255 = 255#32 from rfl, thr_top]; exact le_top
  rcases Nat.eq_zero_or_pos b with rfl | hb0
  · rw [Nat.le_zero.mp hab]
  rw [thr_eq b hb0 hb']
  rcases Nat.eq_zero_or_pos a with rfl | ha0
  · rw [show BitVec.ofNat 32 0 = 0#32 from rfl, thr_zero]
    exact EReal.coe_nonneg.mpr (by positivity)
  rw [thr_eq a ha0 (by omega)]
  exact EReal.coe_le_coe_iff.mpr (zpow_le_zpow_right₀ (by norm_num) (by omega))

/-- A search state: a candidate field `c` whose power is not above `t`, while the power of `c + w` is (or `c + w` is out
    of range). -/
def Inv (t : EReal) (w : ℕ) (e : BitVec 32) : Prop :=
  ∃ c : ℕ, e = BitVec.ofNat 32 c ∧ c + w ≤ 256 ∧ thr (BitVec.ofNat 32 c) ≤ t ∧ (c + w = 256 ∨ t < thr (BitVec.ofNat 32 (c + w)))

/-- One step of the bisection halves the interval that holds the field. -/
theorem Inv.step {t : EReal} {w : ℕ} {e : BitVec 32} (h : Inv t (w + w) e) (hw : 0 < w) : Inv t w (step t (BitVec.ofNat 32 w) e) := by
  obtain ⟨c, rfl, hc, hle, hlt⟩ := h
  have hadd : BitVec.ofNat 32 c + BitVec.ofNat 32 w = BitVec.ofNat 32 (c + w) := by rw [BitVec.ofNat_add]
  unfold Exponent.step
  rw [hadd]
  by_cases ht : t < thr (BitVec.ofNat 32 (c + w))
  · rw [if_pos ht]; exact ⟨c, rfl, by omega, hle, Or.inr ht⟩
  · rw [if_neg ht]
    exact ⟨c + w, rfl, by omega, not_lt.mp ht, by rw [Nat.add_assoc]; exact hlt⟩

/-- What the search finds of a number that is not negative: the field whose power of two is the greatest not above it. -/
theorem field_spec {t : EReal} (h0 : 0 ≤ t) : Inv t 1 (field t) := by
  have h : Inv t 256 0#32 := ⟨0, rfl, by omega, by rw [show BitVec.ofNat 32 0 = 0#32 from rfl, thr_zero]; exact h0, Or.inl rfl⟩
  exact ((((((((h.step (w := 128) (by omega)).step (w := 64) (by omega)).step (w := 32) (by omega)).step (w := 16) (by omega)).step
    (w := 8) (by omega)).step (w := 4) (by omega)).step (w := 2) (by omega)).step (w := 1) (by omega))

/-- The kernel's exponent from the field: 0 for the field 0, else the field less 126. -/
def expo (c : BitVec 32) : BitVec 32 := if c = 0#32 then 0#32 else c - 126#32

/-- The kernel's scale and its reciprocal, as powers of two spelt by their exponent fields. -/
def up (t : EReal) : EReal := thr (expo (field t) + 127#32)
/-- The kernel's reciprocal scale, of the field. -/
def down (t : EReal) : EReal := thr (127#32 - expo (field t))

/-- The field found below `2 ^ 126`: 0 below the smallest normal power, else the binade of `t`. -/
theorem field_cases {t : EReal} (h0 : 0 ≤ t) (h1 : t < (((2 : ℝ) ^ (126 : ℤ) : ℝ) : EReal)) :
    (field t = 0#32 ∧ t < (((2 : ℝ) ^ (-126 : ℤ) : ℝ) : EReal))
    ∨ ∃ n : ℕ, 0 < n ∧ n < 253 ∧ field t = BitVec.ofNat 32 n ∧ (((2 : ℝ) ^ ((n : ℤ) - 127) : ℝ) : EReal) ≤ t
      ∧ t < (((2 : ℝ) ^ ((n : ℤ) - 126) : ℝ) : EReal) := by
  obtain ⟨c, hc, hc', hle, hlt⟩ := field_spec h0
  have hc2 : c < 253 := by
    by_contra hcon
    have := (thr_mono (a := 253) (b := c) (by omega) (by omega)).trans hle
    rw [thr_eq 253 (by omega) (by omega)] at this
    exact absurd (lt_of_le_of_lt this h1) (by norm_num)
  have hlt' : t < thr (BitVec.ofNat 32 (c + 1)) := hlt.resolve_left (by omega)
  rw [thr_eq (c + 1) (by omega) (by omega)] at hlt'
  rcases Nat.eq_zero_or_pos c with rfl | hpos
  · left
    refine ⟨hc, ?_⟩
    convert hlt' using 3
    norm_num
  · right
    refine ⟨c, hpos, hc2, hc, ?_, ?_⟩
    · rwa [thr_eq c hpos (by omega)] at hle
    · convert hlt' using 3
      push_cast
      ring_nf

/-- A zero field gives the scale one. -/
theorem up_zero {t : EReal} (h : field t = 0#32) : up t = 1 ∧ down t = 1 := by
  unfold up down expo
  rw [h]
  have := thr_eq 127 (by omega) (by omega)
  norm_num at this
  exact ⟨this, this⟩

/-- A nonzero field gives a power of two and its reciprocal. -/
theorem up_pos {t : EReal} {n : ℕ} (h0 : 0 < n) (h1 : n < 253) (h : field t = BitVec.ofNat 32 n) :
    up t = (((2 : ℝ) ^ ((n : ℤ) - 126) : ℝ) : EReal) ∧ down t = (((2 : ℝ) ^ (126 - (n : ℤ)) : ℝ) : EReal) := by
  have hb : ∀ n : Fin 253, 0 < n.val → expo (BitVec.ofNat 32 n.val) + 127#32 = BitVec.ofNat 32 (n.val + 1)
      ∧ 127#32 - expo (BitVec.ofNat 32 n.val) = BitVec.ofNat 32 (253 - n.val) := by
    unfold expo
    decide +kernel
  obtain ⟨hu, hd⟩ := hb ⟨n, h1⟩ h0
  dsimp only at hu hd
  unfold up down
  rw [h, hu, hd, thr_eq _ (by omega) (by omega), thr_eq _ (by omega) (by omega)]
  constructor
  · congr 2; push_cast; ring
  · congr 2; rw [Nat.cast_sub (by omega)]; push_cast; ring

/-! ### The reference's scale -/

/-- The powers of two above `t`, the others replaced by the top. -/
def above (t : EReal) (k : Fin 253) : EReal :=
  if t < (((2 : ℝ) ^ ((k.val : ℤ) - 125) : ℝ) : EReal) then (((2 : ℝ) ^ ((k.val : ℤ) - 125) : ℝ) : EReal) else ⊤

/-- The least power of two above `t`, and 1 where `t` lies below the least normal number. -/
def scale (t : EReal) : EReal :=
  if t < (((2 : ℝ) ^ (-126 : ℤ) : ℝ) : EReal) then 1 else Finset.univ.inf (above t)

/-- The two scales agree, and the kernel's multiplier is the reciprocal of the scale. -/
theorem up_eq_scale {t : EReal} (h0 : 0 ≤ t) (h1 : t < (((2 : ℝ) ^ (126 : ℤ) : ℝ) : EReal)) :
    up t = scale t ∧ down t = Ideal.div 1 (scale t) := by
  rcases field_cases h0 h1 with ⟨hf, ht⟩ | ⟨n, hn0, hn1, hf, hle, hlt⟩
  · obtain ⟨hu, hd⟩ := up_zero hf
    rw [hu, hd, scale, if_pos ht]
    refine ⟨rfl, ?_⟩
    simp [Ideal.div]
  · obtain ⟨hu, hd⟩ := up_pos hn0 hn1 hf
    have hs : scale t = (((2 : ℝ) ^ ((n : ℤ) - 126) : ℝ) : EReal) := by
      have hn : ¬ t < (((2 : ℝ) ^ (-126 : ℤ) : ℝ) : EReal) := by
        refine not_lt.mpr (le_trans ?_ hle)
        exact EReal.coe_le_coe_iff.mpr (zpow_le_zpow_right₀ (by norm_num) (by omega))
      rw [scale, if_neg hn]
      apply le_antisymm
      · have hk : n - 1 < 253 := by omega
        refine (Finset.inf_le (Finset.mem_univ (⟨n - 1, hk⟩ : Fin 253))).trans ?_
        have e : (((n - 1 : ℕ) : ℤ) - 125) = (n : ℤ) - 126 := by rw [Nat.cast_sub (by omega)]; push_cast; ring
        unfold above
        dsimp only
        rw [e, if_pos hlt]
      · refine Finset.le_inf fun k _ => ?_
        unfold above
        split_ifs with h
        · have h2 := lt_of_le_of_lt hle h
          have h3 := (zpow_lt_zpow_iff_right₀ (by norm_num : (1 : ℝ) < 2)).mp (EReal.coe_lt_coe_iff.mp h2)
          exact EReal.coe_le_coe_iff.mpr (zpow_le_zpow_right₀ (by norm_num) (by omega))
        · exact le_top
    rw [hu, hd, hs]
    refine ⟨rfl, ?_⟩
    have hne : (((2 : ℝ) ^ ((n : ℤ) - 126) : ℝ) : EReal) ≠ 0 := by
      rw [Ne, EReal.coe_eq_zero]; positivity
    rw [Ideal.div, if_neg hne, one_mul, ← EReal.coe_inv, ← zpow_neg]
    congr 2
    ring

end Cert.Exponent
-- ==== Proof.Row.lean ====
/- One row of the problem over the extended reals: the quantiser, the two norms and the product, and what the
   precondition gives of the quantities whose scale is taken. -/
module

public import proofs.«01_k».proof.Proof.Exponent

@[expose] public section

noncomputable section

namespace Cert.Row

open Idealize.ShloMosaic

/-- f32(1/448), by which both programs multiply a row's largest magnitude. -/
abbrev c448 : EReal := Ideal.ofBits .f32 0x3B124925#32
/-- The norm's ε. -/
abbrev eps : EReal := Ideal.ofBits .f32 0x358637BD#32
/-- The clip's bounds, -448 and 448. -/
abbrev lo : EReal := Ideal.ofBits .f32 0xC3E00000#32
/-- The clip's upper bound, 448. -/
abbrev hi : EReal := Ideal.ofBits .f32 0x43E00000#32

/-- The magnitude of an extended real. -/
abbrev mag (a : EReal) : EReal := max a (-a)

/-- The quotient whose power-of-two scale is taken: the row's largest magnitude times f32(1/448). -/
def quot {n : ℕ} (v : Fin n → EReal) : EReal := Finset.univ.sup (fun k => mag (v k)) * c448

/-- The row's scale. -/
def scl {n : ℕ} (v : Fin n → EReal) : EReal := Exponent.scale (quot v)

/-- The row's codes: each element over the scale, clipped. -/
def code {n : ℕ} (v : Fin n → EReal) (k : Fin n) : EReal := min hi (max lo (v k * Ideal.div 1 (scl v)))

/-- The product of the codes with the weights, scaled. -/
def yrow {K N : ℕ} (x : Fin K → EReal) (w : Fin N → Fin K → EReal) (ws : Fin N → EReal) (j : Fin N) : EReal :=
  (∑ k, code x k * w j k) * scl x * ws j

/-- The reciprocal root mean square of a row. -/
def rms {N : ℕ} (v : Fin N → EReal) : EReal := Ideal.rsqrt ((∑ j, v j * v j) * ((1 / 6912 : ℝ) : EReal) + eps)

/-- A row normed and weighted. -/
def norm {N : ℕ} (v g : Fin N → EReal) (j : Fin N) : EReal := v j * rms v * (1 + g j)

/-- The sum of the normed product and the residual: the third row function of the chain. -/
abbrev hrow (x : Fin 5120 → EReal) (W : Fin 6912 → Fin 5120 → EReal) (WS GP r : Fin 6912 → EReal) (j : Fin 6912) : EReal :=
  norm (yrow x W WS) GP j + r j

/-- f32(1/448) as a real. -/
theorem c448_eq : c448 = (((9586981 : ℝ) * (2 : ℝ) ^ (-32 : ℤ) : ℝ) : EReal) := by
  simp [c448, Ideal.ofBits, Ideal.ieee]

/-- The norm's ε as a real. -/
theorem eps_eq : eps = (((8796093 : ℝ) * (2 : ℝ) ^ (-43 : ℤ) : ℝ) : EReal) := by
  simp [eps, Ideal.ofBits, Ideal.ieee]

/-- The largest finite f32 as a real. -/
theorem maxF32_eq : Ideal.ofBits .f32 0x7F7FFFFF#32 = (((16777215 : ℝ) * (2 : ℝ) ^ (104 : ℤ) : ℝ) : EReal) := by
  simp [Ideal.ofBits, Ideal.ieee]

/-- The largest finite bf16 as a real. -/
theorem maxBf16_eq : Ideal.ofBits .bf16 0x7F7F#16 = (((255 : ℝ) * (2 : ℝ) ^ (120 : ℤ) : ℝ) : EReal) := by
  simp [Ideal.ofBits, Ideal.ieee]

/-- 6912 is an f32. -/
theorem n6912_eq : Ideal.ofBits .f32 0x45D80000#32 = ((6912 : ℝ) : EReal) := by
  simp [Ideal.ofBits, Ideal.ieee]
  rw [← EReal.coe_mul]
  norm_num

/-- The magnitude of a real. -/
theorem mag_coe (r : ℝ) : mag (r : EReal) = ((|r| : ℝ) : EReal) := by
  rw [mag, ← EReal.coe_neg, ← EReal.coe_strictMono.monotone.map_max]
  rfl

/-- A magnitude is not negative. -/
theorem mag_nonneg (a : EReal) : 0 ≤ mag a := by
  rcases le_total 0 a with h | h
  · exact h.trans (le_max_left _ _)
  · exact (EReal.neg_nonneg.mpr h).trans (le_max_right _ _)

/-- A magnitude bounded by a real is a real's. -/
theorem real_of_mag_le {a : EReal} {M : ℝ} (h : mag a ≤ (M : EReal)) : ∃ r : ℝ, a = r ∧ |r| ≤ M := by
  induction a with
  | bot => simp [mag] at h
  | top => simp [mag] at h
  | coe r => rw [mag_coe] at h; exact ⟨r, rfl, EReal.coe_le_coe_iff.mp h⟩

/-- A quotient is not negative. -/
theorem quot_nonneg {n : ℕ} (v : Fin n → EReal) (hn : 0 < n) : 0 ≤ quot v := by
  refine mul_nonneg ((mag_nonneg _).trans (Finset.le_sup (f := fun k => mag (v k)) (Finset.mem_univ (⟨0, hn⟩ : Fin n)))) ?_
  rw [c448_eq]
  exact EReal.coe_nonneg.mpr (by positivity)

/-- Where every magnitude of the row is at most `M`, its quotient stays below 2^126 if `M`'s does. -/
theorem quot_lt {n : ℕ} {v : Fin n → EReal} {M : ℝ} (hv : ∀ k, mag (v k) ≤ (M : EReal))
    (hM : M * ((9586981 : ℝ) * (2 : ℝ) ^ (-32 : ℤ)) < (2 : ℝ) ^ (126 : ℤ)) :
    quot v < (((2 : ℝ) ^ (126 : ℤ) : ℝ) : EReal) := by
  have h1 : Finset.univ.sup (fun k => mag (v k)) ≤ (M : EReal) := Finset.sup_le fun k _ => hv k
  have h2 : quot v ≤ (M : EReal) * c448 := by
    refine mul_le_mul_of_nonneg_right h1 ?_
    rw [c448_eq]
    exact EReal.coe_nonneg.mpr (by positivity)
  refine lt_of_le_of_lt h2 ?_
  rw [c448_eq, ← EReal.coe_mul]
  exact EReal.coe_lt_coe_iff.mpr hM

/-- A square is not negative. -/
theorem mul_self_nonneg' (a : EReal) : 0 ≤ a * a := by
  induction a with
  | bot => simp
  | top => simp
  | coe r => rw [← EReal.coe_mul]; exact EReal.coe_nonneg.mpr (mul_self_nonneg r)

/-- A row divided by its root mean square has no magnitude above 84 = √7056, since its length 6912 is below that. -/
theorem mag_rms_le (h : Fin 6912 → EReal) (i : Fin 6912) : mag (h i * rms h) ≤ ((84 : ℝ) : EReal) := by
  have hS : h i * h i ≤ ∑ j, h j * h j :=
    Finset.single_le_sum (f := fun j => h j * h j) (fun j _ => mul_self_nonneg' (h j)) (Finset.mem_univ i)
  have hS0 : 0 ≤ ∑ j, h j * h j := Finset.sum_nonneg fun j _ => mul_self_nonneg' (h j)
  unfold rms
  generalize (∑ j, h j * h j) = S at hS hS0
  generalize h i = a at hS
  induction S with
  | bot => simp at hS0
  | top =>
    rw [EReal.top_mul_coe_of_pos (by norm_num), eps_eq, EReal.top_add_coe, Ideal.rsqrt_top, mul_zero]
    simp [mag]
  | coe s =>
    have hs0 : 0 ≤ s := EReal.coe_nonneg.mp hS0
    induction a with
    | bot => simp at hS
    | top => simp at hS
    | coe r =>
      rw [← EReal.coe_mul] at hS
      have hr : r * r ≤ s := EReal.coe_le_coe_iff.mp hS
      have he : (0 : ℝ) < (8796093 : ℝ) * (2 : ℝ) ^ (-43 : ℤ) := by positivity
      rw [eps_eq, ← EReal.coe_mul, ← EReal.coe_add, Ideal.rsqrt_coe]
      generalize (8796093 : ℝ) * (2 : ℝ) ^ (-43 : ℤ) = e at he
      have hp : 0 < s * (1 / 6912) + e := by positivity
      rw [if_neg (not_lt.mpr hp.le), if_neg hp.ne', ← EReal.coe_mul, mag_coe]
      refine EReal.coe_le_coe_iff.mpr ?_
      have hq : 0 < Real.sqrt (s * (1 / 6912) + e) := Real.sqrt_pos.mpr hp
      rw [abs_mul, abs_inv, abs_of_pos hq, ← div_eq_mul_inv, div_le_iff₀ hq]
      refine abs_le_of_sq_le_sq (b := 84 * Real.sqrt (s * (1 / 6912) + e)) ?_ (by positivity)
      rw [mul_pow, Real.sq_sqrt hp.le]
      nlinarith

/-- The next layer's normed row stays so small that its quotient is below 2^126, for finite weights. -/
theorem quot_norm_lt (h g : Fin 6912 → EReal) (hg : ∀ j, mag (g j) ≤ Ideal.ofBits .f32 0x7F7FFFFF#32) :
    quot (norm h g) < (((2 : ℝ) ^ (126 : ℤ) : ℝ) : EReal) := by
  refine quot_lt (M := 84 * (1 + 16777215 * (2 : ℝ) ^ (104 : ℤ))) (fun j => ?_) (by norm_num)
  obtain ⟨a, ha, ha'⟩ := real_of_mag_le (mag_rms_le h j)
  have hj := hg j
  rw [maxF32_eq] at hj
  obtain ⟨b, hb, hb'⟩ := real_of_mag_le hj
  rw [norm, ha, hb, ← EReal.coe_one, ← EReal.coe_add, ← EReal.coe_mul, mag_coe]
  refine EReal.coe_le_coe_iff.mpr ?_
  rw [abs_mul]
  exact mul_le_mul ha' ((abs_add_le _ _).trans (by rw [abs_one]; gcongr)) (abs_nonneg _) (by norm_num)

/-- The quotient of a row of finite bf16 values is below 2^126. -/
theorem quot_x_lt {n : ℕ} (x : Fin n → EReal) (hx : ∀ j, mag (x j) ≤ Ideal.ofBits .bf16 0x7F7F#16) :
    quot x < (((2 : ℝ) ^ (126 : ℤ) : ℝ) : EReal) := by
  refine quot_lt (M := 255 * (2 : ℝ) ^ (120 : ℤ)) (fun j => ?_) (by norm_num)
  rw [← maxBf16_eq]
  exact hx j

end Cert.Row

end
-- ==== Proof.Chunks.lean ====
/- Sums and maxima that are taken lane by lane over the 54 column chunks of 128 and then over the lanes are the
   whole row's. -/
module

public import proofs.«01_k».proof.Proof.Row

@[expose] public section

noncomputable section

namespace Cert.Chunks

open Idealize.ShloMosaic

/-- A running sum from zero. -/
def addAcc (f : ℕ → EReal) : ℕ → EReal
  | 0 => 0
  | n + 1 => addAcc f n + f n

/-- A running maximum from zero. -/
def maxAcc (f : ℕ → EReal) : ℕ → EReal
  | 0 => 0
  | n + 1 => max (maxAcc f n) (f n)

/-- An accumulated sum is the sum. -/
theorem addAcc_eq (f : ℕ → EReal) (n : ℕ) : addAcc f n = ∑ c : Fin n, f c := by
  induction n with
  | zero => simp [addAcc]
  | succ n ih => rw [addAcc, ih, Fin.sum_univ_castSucc]; rfl

/-- An accumulated maximum is below every upper bound. -/
theorem maxAcc_le {f : ℕ → EReal} {n : ℕ} {b : EReal} (hb : 0 ≤ b) (h : ∀ c < n, f c ≤ b) : maxAcc f n ≤ b := by
  induction n with
  | zero => exact hb
  | succ n ih => exact max_le (ih fun c hc => h c (hc.trans (Nat.lt_succ_self n))) (h n (Nat.lt_succ_self n))

/-- An accumulated maximum is above what it accumulates. -/
theorem le_maxAcc (f : ℕ → EReal) {n c : ℕ} (hc : c < n) : f c ≤ maxAcc f n := by
  induction n with
  | zero => omega
  | succ n ih =>
    rcases Nat.lt_succ_iff_lt_or_eq.mp hc with h | rfl
    · exact (ih h).trans (le_max_left _ _)
    · exact le_max_right _ _

/-- An accumulated maximum starts at zero. -/
theorem zero_le_maxAcc (f : ℕ → EReal) (n : ℕ) : 0 ≤ maxAcc f n := by
  induction n with
  | zero => exact le_rfl
  | succ n ih => exact ih.trans (le_max_left _ _)

/-- Column `l` of chunk `c`. -/
def col (c : Fin 54) (l : Fin 128) : Fin 6912 := ⟨128 * c.val + l.val, by omega⟩

/-- Every column is one lane of one chunk. -/
theorem exists_col (j : Fin 6912) : ∃ c l, j = col c l :=
  ⟨⟨j.val / 128, by omega⟩, ⟨j.val % 128, by omega⟩, Fin.ext (by simp only [col]; omega)⟩

/-- The lanes' running sums over the chunks add up to the row's sum. -/
theorem sum_lanes (g : Fin 6912 → EReal) (f : Fin 128 → ℕ → EReal) (hf : ∀ l (c : Fin 54), f l c = g (col c l)) :
    ∑ l, addAcc (f l) 54 = ∑ j, g j := by
  simp only [addAcc_eq, hf]
  rw [Finset.sum_comm, ← Finset.sum_product']
  refine Finset.sum_bij (fun p _ => col p.1 p.2) (fun _ _ => Finset.mem_univ _) ?_ ?_ (fun _ _ => rfl)
  · rintro ⟨c, l⟩ _ ⟨c', l'⟩ _ h
    have := congrArg Fin.val h
    simp only [col] at this
    have hc : c = c' := Fin.ext (by omega)
    have hl : l = l' := Fin.ext (by omega)
    rw [hc, hl]
  · intro j _
    obtain ⟨c, l, rfl⟩ := exists_col j
    exact ⟨(c, l), Finset.mem_univ _, rfl⟩

/-- The lanes' running maxima of nonnegative values over the chunks have the row's maximum. -/
theorem sup_lanes (g : Fin 6912 → EReal) (f : Fin 128 → ℕ → EReal) (hf : ∀ l (c : Fin 54), f l c = g (col c l))
    (h0 : ∀ j, 0 ≤ g j) : Finset.univ.sup (fun l => maxAcc (f l) 54) = Finset.univ.sup g := by
  apply le_antisymm
  · refine Finset.sup_le fun l _ => maxAcc_le ((h0 (col 0 0)).trans (Finset.le_sup (Finset.mem_univ _))) fun c hc => ?_
    exact (hf l ⟨c, hc⟩).le.trans (Finset.le_sup (Finset.mem_univ _))
  · refine Finset.sup_le fun j _ => ?_
    obtain ⟨c, l, rfl⟩ := exists_col j
    rw [← hf l c]
    exact (le_maxAcc (f l) c.isLt).trans (Finset.le_sup (f := fun l => maxAcc (f l) 54) (Finset.mem_univ l))

end Cert.Chunks

end
-- ==== Proof.BlockValue.lean ====
/- One grid point's chunks read at an index over the extended reals: each is its part of the row functions of
   Row.lean, applied to the block's rows. -/
module

public import proofs.«01_k».proof.Proof.Block
public import proofs.«01_k».proof.Proof.Chunks
public import Idealize.ShloMosaic.Lib.Pointwise

@[expose] public section

set_option maxRecDepth 16384

noncomputable section

namespace Cert.Block

open Idealize.ShloMosaic Idealize.ShloMosaic.TcCoe
open Cert.KernelIdeal Cert.KernelIdeal.Gen Cert.Row Cert.Chunks

/-- Row `a` of block `n` of the weights, and column `b` of chunk `c`. -/
def yc (n : ℕ) (a : Fin 768) : Fin 6912 := ⟨768 * (n % 9) + a, by have := a.isLt; omega⟩
/-- Column `b` of chunk `c`. -/
def cc (c : ℕ) (b : Fin 128) : Fin 6912 := ⟨128 * (c % 54) + b, by have := b.isLt; omega⟩

/-- The named constant is 1/6912. -/
theorem inv_n : Named.named (F := Ideal) κ "inv_n" (φ := .f32) 0x3917B426#32 = ((1 / 6912 : ℝ) : EReal) :=
  IdealRules.named_const.ideal_named_scalar _ _ _ _ rfl

/-- A step of the kernel's search, element by element. -/
theorem stepOf_apply (t : FVec Ideal S128x1 .f32) (b : BitVec 32) (s : IVec S128x1 32) (i : Fin 128) :
    stepOf t b s (ix2 i 0) = Exponent.step (t (ix2 i 0)) b (s (ix2 i 0)) := by
  pointwise [stepOf]
  rfl

/-- The whole search is the scalar one. -/
theorem pay5_apply (t : FVec Ideal S128x1 .f32) (i : Fin 128) :
    k0_pay5 t (search t) (ix2 i 0) = Exponent.expo (Exponent.field (t (ix2 i 0))) := by
  rw [pay5_eq]
  have h : (stepOf t 1#32 (stepOf t 2#32 (stepOf t 4#32 (search t)))) (ix2 i 0) = Exponent.field (t (ix2 i 0)) := by
    simp only [search, stepOf_apply]
    rfl
  generalize stepOf t 1#32 (stepOf t 2#32 (stepOf t 4#32 (search t))) = s at h
  pointwise [expOf]
  rw [h]
  generalize Exponent.field (t (ix2 i 0)) = e
  unfold Exponent.expo
  by_cases he : e = 0#32
  · subst he; rfl
  · rw [if_neg he]
    have hb : (e == 0#32) = false := beq_eq_false_iff_ne.mpr he
    simp only [Scalar.select, IntOp.cmpi, IntOp.subi, hb]
    rfl

/-- The kernel's scale, of a row's quotient. -/
theorem upOf_apply (t : FVec Ideal S128x1 .f32) (i : Fin 128) : upOf t (ix2 i 0) = Exponent.up (t (ix2 i 0)) := by
  have h := pay5_apply t i
  pointwise [upOf, k0_pay6]
  rw [h]
  rfl

/-- The kernel's reciprocal scale, of a row's quotient. -/
theorem downOf_apply (t : FVec Ideal S128x1 .f32) (i : Fin 128) : downOf t (ix2 i 0) = Exponent.down (t (ix2 i 0)) := by
  have h := pay5_apply t i
  pointwise [downOf]
  rw [h]
  rfl

/-- The largest magnitude of a row, folded from -∞, is its supremum. -/
theorem fold_max_bot {n : ℕ} (f : Fin n → EReal) : Finset.univ.fold max ⊥ f = Finset.univ.sup f := rfl

/-- f32's negative infinity. -/
theorem negInf_eq : Ideal.ofBits .f32 0xFF800000#32 = ⊥ := by
  simp [Ideal.ofBits, Ideal.ieee]

/-- The quotient of a row of the input. -/
theorem pay3_apply (x : FVec Ideal S128x5120 .bf16) (i : Fin 128) :
    k0_pay3 (F := Ideal) x (ix2 i 0) = quot (fun k => x (ix2 i k)) := by
  pointwise [k0_pay3, k0_pay2]
  rw [negInf_eq, fold_max_bot]
  rfl

/-- The reciprocal root mean square, from the accumulated squares. -/
theorem rmsOf_apply (ss : FVec Ideal S128x128 .f32) (i : Fin 128) :
    rmsOf ss (ix2 i 0) = Ideal.rsqrt ((∑ b, ss (ix2 i b)) * ((1 / 6912 : ℝ) : EReal) + eps) := by
  pointwise [rmsOf]
  rw [inv_n]

/-- The scaled product of one column block. -/
theorem pay15_apply (xs : FVec Ideal S128x1 .f32) (xc : FVec Ideal S128x5120 .fp8e4m3) (w : FVec Ideal S768x5120 .fp8e4m3)
    (ws : FVec Ideal S1x768 .f32) (i : Fin 128) (a : Fin 768) :
    k0_pay15 xs xc w ws (ix2 i a) = (∑ k, xc (ix2 i k) * w (ix2 a k)) * xs (ix2 i 0) * ws (ix2 0 a) := by
  pointwise [k0_pay15]

/-- The sum in one chunk. -/
theorem pay38_apply (r : FVec Ideal S128x1 .f32) (y : FVec Ideal S128x128 .f32) (g : FVec Ideal S1x128 .f32)
    (s : FVec Ideal S128x128 .bf16) (i b : Fin 128) :
    k0_pay38 r y g s (ix2 i b) = y (ix2 i b) * r (ix2 i 0) * (1 + g (ix2 0 b)) + s (ix2 i b) := by
  pointwise [k0_pay38]

/-- The last codes in one chunk. -/
theorem pay1_apply (r d : FVec Ideal S128x1 .f32) (h : FVec Ideal S128x128 .bf16) (g : FVec Ideal S1x128 .f32) (i b : Fin 128) :
    k0_pay1 r d h g (ix2 i b) = min hi (max lo (h (ix2 i b) * r (ix2 i 0) * (1 + g (ix2 0 b)) * d (ix2 i 0))) := by
  pointwise [k0_pay1]

/-- The codes of the input. -/
theorem pay7_apply (x : FVec Ideal S128x5120 .bf16) (t : FVec Ideal S128x1 .f32) (i : Fin 128) (k : Fin 5120) :
    k0_pay7 (k0_pay2 x) t (search t) (ix2 i k) = min hi (max lo (x (ix2 i k) * downOf t (ix2 i 0))) := by
  unfold k0_pay7 k0_pay2 downOf
  generalize k0_pay5 t (search t) = e
  pointwise

/-- Accumulated sums, element by element. -/
theorem sums_apply (f : ℕ → FVec Ideal S128x128 .f32) (n : ℕ) (i b : Fin 128) :
    sums f n (ix2 i b) = addAcc (fun c => f c (ix2 i b)) n := by
  induction n with
  | zero =>
    show broadcast S128x128 (FloatOps.ofBits (F := Ideal) .f32 0x00000000#32) (ix2 i b) = 0
    pointwise
  | succ n ih => exact congrArg (· + f n (ix2 i b)) ih

/-- Accumulated maxima, element by element. -/
theorem maxs_apply (f : ℕ → FVec Ideal S128x128 .f32) (n : ℕ) (i b : Fin 128) :
    maxs f n (ix2 i b) = maxAcc (fun c => f c (ix2 i b)) n := by
  induction n with
  | zero =>
    show broadcast S128x128 (FloatOps.ofBits (F := Ideal) .f32 0x00000000#32) (ix2 i b) = 0
    pointwise
  | succ n ih => exact congrArg (max · (f n (ix2 i b))) ih

end Cert.Block
-- ==== Proof.BlockRows.lean ====
/- One grid point over the extended reals, end to end: what its five outputs hold at an index is the row functions of
   Row.lean at that row of the block's inputs. -/
module

public import proofs.«01_k».proof.Proof.BlockValue

@[expose] public section

set_option maxRecDepth 16384

noncomputable section

namespace Cert.Block

open Idealize.ShloMosaic Idealize.ShloMosaic.TcCoe
open Cert.KernelIdeal Cert.KernelIdeal.Gen Cert.Row Cert.Chunks

/-- Where a rectangle of a rank-2 shape puts an index. -/
theorem unit_emb2 {m n m' n' : ℕ} (off : Fin 2 → ℕ) (inb : ∀ a, off a + (![m', n'] : Fin 2 → ℕ) a ≤ (![m, n] : Fin 2 → ℕ) a)
    (i : Fin m') (j : Fin n') (i' : Fin m) (j' : Fin n) (h0 : off 0 + i.val = i'.val) (h1 : off 1 + j.val = j'.val) :
    (Rect.unit (s := ⟨2, ![m, n]⟩) off ![m', n'] inb).idx (ix2 i j) = ix2 i' j' :=
  funext (Fin.forall_fin_two.mpr ⟨Fin.ext (by show off 0 + 1 * i.val = i'.val; omega),
    Fin.ext (by show off 1 + 1 * j.val = j'.val; omega)⟩)

/-- Where a chunk's element lies in the block. -/
theorem chunk_idx (c : ℕ) (i b : Fin 128) : (chunk c).idx (ix2 i b) = ix2 i (cc c b) :=
  unit_emb2 _ (inbChunk c) i b i (cc c b) (Nat.zero_add _) rfl
/-- Where a chunk's element lies in a row of weights. -/
theorem rowChunk_idx (c : ℕ) (b : Fin 128) : (rowChunk c).idx (ix2 0 b) = ix2 0 (cc c b) :=
  unit_emb2 _ (inbRow c) 0 b 0 (cc c b) rfl rfl
/-- Where a column block's element lies in the products. -/
theorem yRect_idx (n : ℕ) (i : Fin 128) (a : Fin 768) : (yRect n).idx (ix2 i a) = ix2 i (yc n a) :=
  unit_emb2 _ (inbY n) i a i (yc n a) (Nat.zero_add _) rfl
/-- Where a column block's element lies in the weights. -/
theorem wRect_idx (n : ℕ) (a : Fin 768) (k : Fin 5120) : (wRect n).idx (ix2 a k) = ix2 (yc n a) k :=
  unit_emb2 _ (inbW n) a k (yc n a) k rfl (Nat.zero_add _)
/-- Where a column block's element lies in the weights' scales. -/
theorem wsRect_idx (n : ℕ) (a : Fin 768) : (wsRect n).idx (ix2 0 a) = ix2 0 (yc n a) :=
  unit_emb2 _ (inbWs n) 0 a 0 (yc n a) rfl rfl
/-- The whole input block, at its own place. -/
theorem xRect_idx (i : Fin 128) (k : Fin 5120) : xRect.idx (ix2 i k) = ix2 i k :=
  unit_emb2 _ inbX i k i k (Nat.zero_add _) (Nat.zero_add _)
/-- The whole column of scales, at its own place. -/
theorem sRect_idx (i : Fin 128) : sRect.idx (ix2 i 0) = ix2 i 0 :=
  unit_emb2 _ inbS i 0 i 0 (Nat.zero_add _) rfl

/-- Where every store of a list writes its part of one function and some store covers an index, that function is read
    there. -/
theorem canon_of_agree {s : Shape} {e : EltTy} (G : s.Idx → Elt Ideal e) (L : List (View.Piece (Elt Ideal) s e))
    (hL : ∀ p ∈ L, ∀ x, p.2 x = G (p.1.emb x)) (y : s.Idx) (hy : ∃ p ∈ L, y ∈ p.1.set) : View.canon L y = G y := by
  induction L with
  | nil => obtain ⟨_, h, _⟩ := hy; exact absurd h List.not_mem_nil
  | cons p L ih =>
    by_cases h : y ∈ p.1.set
    · obtain ⟨r, w⟩ := p
      obtain ⟨x, rfl⟩ : ∃ x, r.emb x = y := r.exists_idx_of_mem h
      rw [View.canon_cons_emb]
      exact hL ⟨r, w⟩ List.mem_cons_self x
    · rw [View.canon_cons_of_not_mem p L h]
      refine ih (fun q hq => hL q (List.mem_cons_of_mem _ hq)) ?_
      obtain ⟨q, hq, hyq⟩ := hy
      rcases List.mem_cons.mp hq with rfl | hq
      · exact absurd hyq h
      · exact ⟨q, hq, hyq⟩

/-- The pieces of a stack are those of the pass. -/
theorem mem_stack {s : Shape} {e : EltTy} (P : ℕ → View.Piece (Elt Ideal) s e) (n : ℕ) (p : View.Piece (Elt Ideal) s e) :
    p ∈ stack P n ↔ ∃ k < n, p = P k := by
  induction n with
  | zero => exact ⟨fun h => absurd h List.not_mem_nil, fun ⟨k, hk, _⟩ => absurd hk (Nat.not_lt_zero k)⟩
  | succ n ih =>
    show p ∈ P n :: stack P n ↔ _
    rw [List.mem_cons, ih]
    constructor
    · rintro (rfl | ⟨k, hk, rfl⟩)
      · exact ⟨n, Nat.lt_succ_self n, rfl⟩
      · exact ⟨k, hk.trans (Nat.lt_succ_self n), rfl⟩
    · rintro ⟨k, hk, rfl⟩
      rcases Nat.lt_succ_iff_lt_or_eq.mp hk with h | rfl
      · exact Or.inr ⟨k, h, rfl⟩
      · exact Or.inl rfl

/-- The stores of the chunks of a pass, each writing its part of `G`, leave `G`. -/
theorem canon_chunks {e : EltTy} (G : Fin 128 → Fin 6912 → Elt Ideal e) (P : ℕ → View.Piece (Elt Ideal) S128x6912 e)
    (V : ℕ → S128x128.Idx → Elt Ideal e) (hP : ∀ c, P c = ⟨chunk c, V c⟩)
    (hV : ∀ c < 54, ∀ i b, V c (ix2 i b) = G i (cc c b))
    (i : Fin 128) (j : Fin 6912) : View.canon (stack P 54) (ix2 i j) = G i j := by
  refine canon_of_agree (fun y => G (y 0) (y 1)) _ (fun p hp => ?_) (ix2 i j) ?_
  · obtain ⟨c, hc, rfl⟩ := (mem_stack P 54 p).mp hp
    rw [hP]
    have key : ∀ x : S128x128.Idx, V c x = G ((chunk c).idx x 0) ((chunk c).idx x 1) := fun x => by
      obtain ⟨i', b', rfl⟩ : ∃ (i' : Fin 128) (b' : Fin 128), x = ix2 i' b' := ⟨x 0, x 1, eq_ix2 x⟩
      rw [chunk_idx]
      exact hV c hc i' b'
    exact key
  · obtain ⟨c, b, rfl⟩ := exists_col j
    refine ⟨P c, (mem_stack P 54 _).mpr ⟨c, c.isLt, rfl⟩, ?_⟩
    have h : (chunk c).idx (ix2 i b) = ix2 i (col c b) := by
      rw [chunk_idx]
      exact congrArg (ix2 i) (Fin.ext (by simp only [cc, col, Nat.mod_eq_of_lt c.isLt]))
    rw [hP, ← h]
    exact (chunk c).toLoadRect.idx_mem _

/-- The same of the nine blocks of the product. -/
theorem canon_blocks {e : EltTy} (G : Fin 128 → Fin 6912 → Elt Ideal e) (P : ℕ → View.Piece (Elt Ideal) S128x6912 e)
    (V : ℕ → S128x768.Idx → Elt Ideal e) (hP : ∀ n, P n = ⟨yRect n, V n⟩)
    (hV : ∀ n < 9, ∀ i a, V n (ix2 i a) = G i (yc n a))
    (i : Fin 128) (j : Fin 6912) : View.canon (stack P 9) (ix2 i j) = G i j := by
  refine canon_of_agree (fun y => G (y 0) (y 1)) _ (fun p hp => ?_) (ix2 i j) ?_
  · obtain ⟨n, hn, rfl⟩ := (mem_stack P 9 p).mp hp
    rw [hP]
    have key : ∀ x : S128x768.Idx, V n x = G ((yRect n).idx x 0) ((yRect n).idx x 1) := fun x => by
      obtain ⟨i', a', rfl⟩ : ∃ (i' : Fin 128) (a' : Fin 768), x = ix2 i' a' := ⟨x 0, x 1, eq_ix2 x⟩
      rw [yRect_idx]
      exact hV n hn i' a'
    exact key
  · have hj := j.isLt
    refine ⟨P (j.val / 768), (mem_stack P 9 _).mpr ⟨j.val / 768, by omega, rfl⟩, ?_⟩
    have h : (yRect (j.val / 768)).idx (ix2 i ⟨j.val % 768, by omega⟩) = ix2 i j := by
      rw [yRect_idx]
      exact congrArg (ix2 i) (Fin.ext (by simp only [yc]; omega))
    rw [hP, ← h]
    exact (yRect (j.val / 768)).toLoadRect.idx_mem _

/-- The loads of a grid point are the parts of its rows. -/
structure Reads (l : Loads Ideal) (X : Fin 128 → Fin 5120 → EReal) (W : Fin 6912 → Fin 5120 → EReal)
    (WS GP GQ : Fin 6912 → EReal) (R : Fin 128 → Fin 6912 → EReal) : Prop where
  x : ∀ i k, l.x (ix2 i k) = X i k
  w : ∀ n a k, l.w n (ix2 a k) = W (yc n a) k
  ws : ∀ n a, l.ws n (ix2 0 a) = WS (yc n a)
  gp : ∀ c b, l.gp c (ix2 0 b) = GP (cc c b)
  gq : ∀ c b, l.gq c (ix2 0 b) = GQ (cc c b)
  res : ∀ c i b, l.res c (ix2 i b) = R i (cc c b)
  backX : ∀ L i k, l.backX L (ix2 i k) = View.canon L (ix2 i k)
  backY : ∀ L c i b, l.backY L c (ix2 i b) = View.canon L (ix2 i (cc c b))
  backH : ∀ L c i b, l.backH L c (ix2 i b) = View.canon L (ix2 i (cc c b))

/-- A chunk's column is a column of the row. -/
theorem cc_col (c : Fin 54) (b : Fin 128) : cc c b = col c b :=
  Fin.ext (by simp only [cc, col, Nat.mod_eq_of_lt c.isLt])

namespace Reads

variable {l : Loads Ideal} {X : Fin 128 → Fin 5120 → EReal} {W : Fin 6912 → Fin 5120 → EReal}
  {WS GP GQ : Fin 6912 → EReal} {R : Fin 128 → Fin 6912 → EReal} (h : Reads l X W WS GP GQ R)
  (hX : ∀ i, quot (X i) < (((2 : ℝ) ^ (126 : ℤ) : ℝ) : EReal))

include h

/-- The input's quotients, by rows. -/
theorem quot_x (i : Fin 128) : k0_pay3 l.x (ix2 i 0) = quot (X i) :=
  (pay3_apply l.x i).trans (congrArg quot (funext fun k => h.x i k))

include hX

/-- The stored scale of the input is its row's. -/
theorem xscale (i : Fin 128) : l.xscale (ix2 i 0) = scl (X i) := by
  refine (upOf_apply _ i).trans ?_
  rw [h.quot_x i]
  exact (Exponent.up_eq_scale (quot_nonneg _ (by norm_num)) (hX i)).1

/-- The stored codes are its row's. -/
theorem xcode (i : Fin 128) (k : Fin 5120) : l.xcode (ix2 i k) = code (X i) k := by
  refine (pay7_apply _ _ i k).trans ?_
  rw [downOf_apply, h.quot_x i, (Exponent.up_eq_scale (quot_nonneg _ (by norm_num)) (hX i)).2, h.x]
  rfl

/-- The codes read back, by rows. -/
theorem xback (i : Fin 128) (k : Fin 5120) : l.xback (ix2 i k) = code (X i) k := by
  have e : l.xback (ix2 i k) = l.backX [⟨xRect, l.xcode⟩] (ix2 i k) := by
    unfold Loads.xback
    pointwise [k0_pay8]
  rw [e, h.backX, ← h.xcode hX i k]
  have q : View.canon [(⟨xRect, l.xcode⟩ : View.Piece (Elt Ideal) S128x5120 .fp8e4m3)] (xRect.emb (ix2 i k))
      = l.xcode (ix2 i k) := View.canon_cons_emb _ _ _ _
  rwa [show xRect.emb (ix2 i k) = ix2 i k from xRect_idx i k] at q

/-- A block of the product is its part of the row's product. -/
theorem yblk (n : ℕ) (i : Fin 128) (a : Fin 768) : l.yblk n (ix2 i a) = yrow (X i) W WS (yc n a) := by
  refine (pay15_apply _ _ _ _ i a).trans ?_
  rw [h.xscale hX, h.ws]
  simp only [h.xback hX, h.w]
  rfl

/-- The kept product, read back. -/
theorem canon_y (i : Fin 128) (j : Fin 6912) : View.canon (stack l.ypiece 9) (ix2 i j) = yrow (X i) W WS j := by
  refine canon_blocks (fun i j => yrow (X i) W WS j) l.ypiece _ (fun _ => rfl) (fun n _ i a => ?_) i j
  refine Eq.trans ?_ (h.yblk hX n i a)
  generalize l.yblk n = v
  pointwise

/-- The products read back, by rows. -/
theorem yback (c : ℕ) (i b : Fin 128) : l.backY (stack l.ypiece 9) c (ix2 i b) = yrow (X i) W WS (cc c b) := by
  rw [h.backY, h.canon_y hX]

/-- The slices whose squares are summed are the same. -/
theorem yslice (c : Fin 54) (i b : Fin 128) : l.yslice c (ix2 i b) = yrow (X i) W WS (col c b) := by
  have hb := b.isLt
  have hc := c.isLt
  have e : l.yslice c (ix2 i b) = l.yblk (c.val / 6) (ix2 i ⟨128 * (c.val % 6) + b.val, by omega⟩) := by
    unfold Loads.yslice
    generalize l.yblk (c.val / 6) = v
    exact congrArg v (funext (Fin.forall_fin_two.mpr ⟨Fin.ext (Nat.zero_add _), Fin.ext rfl⟩))
  rw [e, h.yblk hX]
  exact congrArg (yrow (X i) W WS) (Fin.ext (by simp only [yc, col]; omega))

/-- The first reciprocal root mean square, by rows. -/
theorem yrms (i : Fin 128) : l.yrms (ix2 i 0) = rms (yrow (X i) W WS) := by
  refine (rmsOf_apply _ i).trans ?_
  simp only [sums_apply]
  rw [sum_lanes (fun j => yrow (X i) W WS j * yrow (X i) W WS j)]
  · rfl
  · intro b c
    refine Eq.trans ?_ (congrArg₂ (· * ·) (h.yslice hX c i b) (h.yslice hX c i b))
    generalize l.yslice c = v
    pointwise

/-- A chunk of the sum is its part of the row's. -/
theorem hchunk (c : ℕ) (i b : Fin 128) : l.hchunk c (ix2 i b) = hrow (X i) W WS GP (R i) (cc c b) := by
  refine (pay38_apply _ _ _ _ i b).trans ?_
  rw [h.yback hX, h.yrms hX, h.gp, h.res]
  rfl

/-- The stored sum, by rows. -/
theorem canon_h (i : Fin 128) (j : Fin 6912) :
    View.canon (stack l.hpiece 54) (ix2 i j) = hrow (X i) W WS GP (R i) j :=
  canon_chunks (fun i j => hrow (X i) W WS GP (R i) j) l.hpiece _ (fun _ => rfl) (fun c _ i b => h.hchunk hX c i b) i j

/-- The second reciprocal root mean square, by rows. -/
theorem hrms (i : Fin 128) : l.hrms (ix2 i 0) = rms (hrow (X i) W WS GP (R i)) := by
  refine (rmsOf_apply _ i).trans ?_
  simp only [sums_apply]
  rw [sum_lanes (fun j => hrow (X i) W WS GP (R i) j * hrow (X i) W WS GP (R i) j)]
  · rfl
  · intro b c
    refine Eq.trans ?_ (congrArg₂ (· * ·) (h.hchunk hX c i b) (h.hchunk hX c i b)) |>.trans (by rw [cc_col])
    unfold Loads.hsq
    generalize l.hchunk c = v
    pointwise

/-- The sum read back, by rows. -/
theorem hback (c : ℕ) (i b : Fin 128) : l.hback c (ix2 i b) = hrow (X i) W WS GP (R i) (cc c b) := by
  unfold Loads.hback
  rw [h.backH, h.canon_h hX]

/-- A chunk of the second norm is its part of the row's. -/
theorem zchunk (c : ℕ) (i b : Fin 128) :
    l.zchunk c (ix2 i b) = norm (hrow (X i) W WS GP (R i)) GQ (cc c b) := by
  have e : l.zchunk c (ix2 i b) = l.hback c (ix2 i b) * l.hrms (ix2 i 0) * (1 + l.gq c (ix2 0 b)) := by
    unfold Loads.zchunk
    generalize l.hback c = v
    generalize l.hrms = r
    pointwise
  rw [e, h.hback hX, h.hrms hX, h.gq]
  rfl

/-- The largest magnitude over lanes and chunks is the row's. -/
theorem zquot (i : Fin 128) : l.zquot (ix2 i 0) = quot (norm (hrow (X i) W WS GP (R i)) GQ) := by
  have e : l.zquot (ix2 i 0)
      = Finset.univ.sup (fun b => maxs (fun c => absf (l.zchunk c)) 54 (ix2 i b)) * c448 := by
    unfold Loads.zquot
    generalize maxs (fun c => absf (l.zchunk c)) 54 = v
    pointwise
    rw [negInf_eq]
    rfl
  rw [e]
  simp only [maxs_apply]
  refine congrArg (· * c448) (sup_lanes (fun j => mag (norm (hrow (X i) W WS GP (R i)) GQ j)) _ (fun b c => ?_)
    (fun j => mag_nonneg _))
  rw [← cc_col]
  exact congrArg mag (h.zchunk hX c i b)

variable (hZ : ∀ i, quot (norm (hrow (X i) W WS GP (R i)) GQ) < (((2 : ℝ) ^ (126 : ℤ) : ℝ) : EReal))
include hZ

/-- The stored scale of the second norm is its row's. -/
theorem zscale (i : Fin 128) : upOf l.zquot (ix2 i 0) = scl (norm (hrow (X i) W WS GP (R i)) GQ) := by
  refine (upOf_apply _ i).trans ?_
  rw [h.zquot hX i]
  exact (Exponent.up_eq_scale (quot_nonneg _ (by norm_num)) (hZ i)).1

/-- The stored codes are its row's. -/
theorem zcode (c : ℕ) (i b : Fin 128) :
    l.zcode c (ix2 i b) = code (norm (hrow (X i) W WS GP (R i)) GQ) (cc c b) := by
  refine (pay1_apply _ _ _ _ i b).trans ?_
  rw [downOf_apply, h.zquot hX i, (Exponent.up_eq_scale (quot_nonneg _ (by norm_num)) (hZ i)).2, h.hback hX, h.hrms hX, h.gq]
  rfl

/-- The stored last codes, by rows. -/
theorem canon_z (i : Fin 128) (j : Fin 6912) :
    View.canon (stack l.zpiece 54) (ix2 i j) = code (norm (hrow (X i) W WS GP (R i)) GQ) j :=
  canon_chunks (fun i j => code (norm (hrow (X i) W WS GP (R i)) GQ) j) l.zpiece _ (fun _ => rfl)
    (fun c _ i b => h.zcode hX hZ c i b) i j

end Reads

/-! ## The run's five outputs -/

section Outs

variable (c : Dev nD) (i : grid0.Coords) (arg1 : Memref sig .tc .vmem S128x5120 .bf16) (harg1 : arg1.IsWhole) (arg2 : Memref sig .tc .vmem S128x6912 .bf16) (harg2 : arg2.IsWhole) (arg3 : Memref sig .tc .vmem S6912x5120 .fp8e4m3) (harg3 : arg3.IsWhole) (arg4 : Memref sig .tc .vmem S1x6912 .f32) (harg4 : arg4.IsWhole) (arg5 : Memref sig .tc .vmem S1x6912 .f32) (harg5 : arg5.IsWhole) (arg6 : Memref sig .tc .vmem S1x6912 .f32) (harg6 : arg6.IsWhole) (arg7 : Memref sig .tc .vmem S128x6912 .bf16) (harg7 : arg7.IsWhole) (arg8 : Memref sig .tc .vmem S128x5120 .fp8e4m3) (harg8 : arg8.IsWhole) (arg9 : Memref sig .tc .vmem S128x1 .f32) (harg9 : arg9.IsWhole) (arg10 : Memref sig .tc .vmem S128x6912 .fp8e4m3) (harg10 : arg10.IsWhole) (arg11 : Memref sig .tc .vmem S128x1 .f32) (harg11 : arg11.IsWhole) (arg12 : Memref sig .tc .vmem S128x6912 .f32) (harg12 : arg12.IsWhole)
  (x0 : Vec Ideal S128x5120 .bf16) (x1 : Vec Ideal S128x6912 .bf16) (x2 : Vec Ideal S6912x5120 .fp8e4m3) (x3 : Vec Ideal S1x6912 .f32) (x4 : Vec Ideal S1x6912 .f32) (x5 : Vec Ideal S1x6912 .f32)

/-- The rows of a grid point's input blocks. -/
abbrev rowsX (r : Fin 128) (k : Fin 5120) : EReal := x0 (ix2 r k)
/-- The rows of the block of the residual. -/
abbrev rowsR (r : Fin 128) (j : Fin 6912) : EReal := x1 (ix2 r j)
/-- The rows of the weights. -/
abbrev rowsW (j : Fin 6912) (k : Fin 5120) : EReal := x2 (ix2 j k)
/-- A one-row array as a row. -/
abbrev rowV (x : Vec Ideal S1x6912 .f32) (j : Fin 6912) : EReal := x (ix2 0 j)

/-- The loads of a run read these rows. -/
theorem reads : Reads (loads arg1 harg1 arg2 harg2 arg3 harg3 arg4 harg4 arg5 harg5 arg6 harg6 arg7 arg8 arg12 x0 x1 x2 x3 x4 x5)
    (rowsX x0) (rowsW x2) (rowV x3) (rowV x4) (rowV x5) (rowsR x1) where
  x r k := (congrFun (View.readAt_eq_ld _ _ _) _).trans (by rw [Memref.IsWhole.read_unread]; exact congrArg x0 (xRect_idx r k))
  w n a k := (congrFun (View.readAt_eq_ld _ _ _) _).trans (by rw [Memref.IsWhole.read_unread]; exact congrArg x2 (wRect_idx n a k))
  ws n a := (congrFun (View.readAt_eq_ld _ _ _) _).trans (by rw [Memref.IsWhole.read_unread]; exact congrArg x3 (wsRect_idx n a))
  gp n b := (congrFun (View.readAt_eq_ld _ _ _) _).trans (by rw [Memref.IsWhole.read_unread]; exact congrArg x4 (rowChunk_idx n b))
  gq n b := (congrFun (View.readAt_eq_ld _ _ _) _).trans (by rw [Memref.IsWhole.read_unread]; exact congrArg x5 (rowChunk_idx n b))
  res n r b := (congrFun (View.readAt_eq_ld _ _ _) _).trans (by rw [Memref.IsWhole.read_unread]; exact congrArg x1 (chunk_idx n r b))
  backX L r k := (congrFun (View.readCov_eq_canon' _ L xRect.toLoadRect) _).trans (congrArg (View.canon L) (xRect_idx r k))
  backY L n r b := (congrFun (View.readCov_eq_canon' _ L (chunk n).toLoadRect) _).trans (congrArg (View.canon L) (chunk_idx n r b))
  backH L n r b := (congrFun (View.readCov_eq_canon' _ L (chunk n).toLoadRect) _).trans (congrArg (View.canon L) (chunk_idx n r b))

variable (hX : ∀ r, quot (rowsX x0 r) < (((2 : ℝ) ^ (126 : ℤ) : ℝ) : EReal))
include hX

/-- The row of the sum that the block's row `r` gives. -/
abbrev blockH (r : Fin 128) : Fin 6912 → EReal := hrow (rowsX x0 r) (rowsW x2) (rowV x3) (rowV x4) (rowsR x1 r)

/-- The block of the sum the run leaves. -/
theorem out_h (r : Fin 128) (j : Fin 6912) : (out0_A_6 c i arg1 harg1 arg2 harg2 arg3 harg3 arg4 harg4 arg5 harg5 arg6 harg6 arg7 harg7 arg8 harg8 arg9 harg9 arg10 harg10 arg11 harg11 arg12 harg12 x0 x1 x2 x3 x4 x5) (ix2 r j) = blockH x0 x1 x2 x3 x4 r j := by
  unfold out0_A_6
  rw [View.read_writes_junk_eq_canon, run_h]
  exact (reads arg1 harg1 arg2 harg2 arg3 harg3 arg4 harg4 arg5 harg5 arg6 harg6 arg7 arg8 arg12 x0 x1 x2 x3 x4 x5).canon_h hX r j

/-- The block of the input's codes the run leaves. -/
theorem out_xcode (r : Fin 128) (k : Fin 5120) : (out0_A_7 c i arg1 harg1 arg2 harg2 arg3 harg3 arg4 harg4 arg5 harg5 arg6 harg6 arg7 harg7 arg8 harg8 arg9 harg9 arg10 harg10 arg11 harg11 arg12 harg12 x0 x1 x2 x3 x4 x5) (ix2 r k) = code (rowsX x0 r) k := by
  unfold out0_A_7
  rw [View.read_writes_junk_eq_canon, run_xcode]
  refine Eq.trans ?_ ((reads arg1 harg1 arg2 harg2 arg3 harg3 arg4 harg4 arg5 harg5 arg6 harg6 arg7 arg8 arg12 x0 x1 x2 x3 x4 x5).xcode hX r k)
  generalize Loads.xcode (F := Ideal) _ = v
  have q : View.canon [(⟨xRect, v⟩ : View.Piece (Elt Ideal) S128x5120 .fp8e4m3)] (xRect.emb (ix2 r k)) = v (ix2 r k) :=
    View.canon_cons_emb _ _ _ _
  rwa [show xRect.emb (ix2 r k) = ix2 r k from xRect_idx r k] at q

/-- The block of the input's scales the run leaves. -/
theorem out_xscale (r : Fin 128) : (out0_A_8 c i arg1 harg1 arg2 harg2 arg3 harg3 arg4 harg4 arg5 harg5 arg6 harg6 arg7 harg7 arg8 harg8 arg9 harg9 arg10 harg10 arg11 harg11 arg12 harg12 x0 x1 x2 x3 x4 x5) (ix2 r 0) = scl (rowsX x0 r) := by
  unfold out0_A_8
  rw [View.read_writes_junk_eq_canon, run_xscale]
  refine Eq.trans ?_ ((reads arg1 harg1 arg2 harg2 arg3 harg3 arg4 harg4 arg5 harg5 arg6 harg6 arg7 arg8 arg12 x0 x1 x2 x3 x4 x5).xscale hX r)
  generalize Loads.xscale (F := Ideal) _ = v
  have q : View.canon [(⟨sRect, v⟩ : View.Piece (Elt Ideal) S128x1 .f32)] (sRect.emb (ix2 r 0)) = v (ix2 r 0) :=
    View.canon_cons_emb _ _ _ _
  rwa [show sRect.emb (ix2 r 0) = ix2 r 0 from sRect_idx r] at q

variable (hZ : ∀ r, quot (norm (blockH x0 x1 x2 x3 x4 r) (rowV x5)) < (((2 : ℝ) ^ (126 : ℤ) : ℝ) : EReal))
include hZ

/-- The block of the last codes the run leaves. -/
theorem out_zcode (r : Fin 128) (j : Fin 6912) :
    (out0_A_9 c i arg1 harg1 arg2 harg2 arg3 harg3 arg4 harg4 arg5 harg5 arg6 harg6 arg7 harg7 arg8 harg8 arg9 harg9 arg10 harg10 arg11 harg11 arg12 harg12 x0 x1 x2 x3 x4 x5) (ix2 r j) = code (norm (blockH x0 x1 x2 x3 x4 r) (rowV x5)) j := by
  unfold out0_A_9
  rw [View.read_writes_junk_eq_canon, run_z]
  exact (reads arg1 harg1 arg2 harg2 arg3 harg3 arg4 harg4 arg5 harg5 arg6 harg6 arg7 arg8 arg12 x0 x1 x2 x3 x4 x5).canon_z hX hZ r j

/-- The block of the last scales the run leaves. -/
theorem out_zscale (r : Fin 128) :
    (out0_A_10 c i arg1 harg1 arg2 harg2 arg3 harg3 arg4 harg4 arg5 harg5 arg6 harg6 arg7 harg7 arg8 harg8 arg9 harg9 arg10 harg10 arg11 harg11 arg12 harg12 x0 x1 x2 x3 x4 x5) (ix2 r 0) = scl (norm (blockH x0 x1 x2 x3 x4 r) (rowV x5)) := by
  unfold out0_A_10
  rw [View.read_writes_junk_eq_canon, run_zscale]
  refine Eq.trans ?_ ((reads arg1 harg1 arg2 harg2 arg3 harg3 arg4 harg4 arg5 harg5 arg6 harg6 arg7 arg8 arg12 x0 x1 x2 x3 x4 x5).zscale hX hZ r)
  generalize upOf (F := Ideal) _ = v
  have q : View.canon [(⟨sRect, v⟩ : View.Piece (Elt Ideal) S128x1 .f32)] (sRect.emb (ix2 r 0)) = v (ix2 r 0) :=
    View.canon_cons_emb _ _ _ _
  rwa [show sRect.emb (ix2 r 0) = ix2 r 0 from sRect_idx r] at q

end Outs

end Cert.Block
-- ==== Proof.Final.lean ====
/- The kernel's five result arrays over the extended reals, row by row: row `r` of each is a function of Row.lean of row
   `r` of the arrays the grid reads. -/
module

public import proofs.«01_k».proof.Proof.Gen.KernelIdeal.Value
public import proofs.«01_k».proof.Proof.BlockRows
public import Idealize.ShloMosaic.Lib.Pipeline.ValueKit.Point

@[expose] public section

set_option maxRecDepth 16384

noncomputable section

namespace Cert.Final

open Idealize.ShloMosaic Idealize.ShloMosaic.TcCoe Idealize.SL.Sem
open Cert.KernelIdeal Cert.KernelIdeal.Gen Cert.Row Cert.Block

variable (m : (ℓ : Loc nD τ sig) → Buf (Elt Ideal) ℓ)

/-- The row of the whole array that row `i` of point `t`'s block is. -/
abbrev row (t : Fin cfg0.N) (i : Fin 128) : Fin 8192 :=
  ⟨t.val * 128 + i.val, by have h : t.val < 64 := t.isLt.trans_eq N_0; omega⟩

/-- The block index of window 0, the input. -/
theorem idx0 : ∀ t : Fin cfg0.N, win0_0.index t = ![t.val, 0] := (by decide +kernel : ∀ t : Fin grid0.N, _)
/-- The block index of window 1, the residual. -/
theorem idx1 : ∀ t : Fin cfg0.N, win0_1.index t = ![t.val, 0] := (by decide +kernel : ∀ t : Fin grid0.N, _)
/-- The block index of window 6, the sum. -/
theorem idx6 : ∀ t : Fin cfg0.N, win0_6.index t = ![t.val, 0] := (by decide +kernel : ∀ t : Fin grid0.N, _)
/-- The block index of window 7, the input's codes. -/
theorem idx7 : ∀ t : Fin cfg0.N, win0_7.index t = ![t.val, 0] := (by decide +kernel : ∀ t : Fin grid0.N, _)
/-- The block index of window 8, the input's scales. -/
theorem idx8 : ∀ t : Fin cfg0.N, win0_8.index t = ![t.val, 0] := (by decide +kernel : ∀ t : Fin grid0.N, _)
/-- The block index of window 9, the last codes. -/
theorem idx9 : ∀ t : Fin cfg0.N, win0_9.index t = ![t.val, 0] := (by decide +kernel : ∀ t : Fin grid0.N, _)
/-- The block index of window 10, the last scales. -/
theorem idx10 : ∀ t : Fin cfg0.N, win0_10.index t = ![t.val, 0] := (by decide +kernel : ∀ t : Fin grid0.N, _)
/-- The block index of window 2, the weights. -/
theorem idx2 : ∀ t : Fin cfg0.N, win0_2.index t = ![0, 0] := (by decide +kernel : ∀ t : Fin grid0.N, _)
/-- The block index of window 3, the weights' scales. -/
theorem idx3 : ∀ t : Fin cfg0.N, win0_3.index t = ![0, 0] := (by decide +kernel : ∀ t : Fin grid0.N, _)
/-- The block index of window 4, the post-norm weights. -/
theorem idx4 : ∀ t : Fin cfg0.N, win0_4.index t = ![0, 0] := (by decide +kernel : ∀ t : Fin grid0.N, _)
/-- The block index of window 5, the pre-norm weights. -/
theorem idx5 : ∀ t : Fin cfg0.N, win0_5.index t = ![0, 0] := (by decide +kernel : ∀ t : Fin grid0.N, _)

/-- What the block of window 0, the input, reads of its array. -/
theorem iblk0 (c : Dev nD) (t : Fin cfg0.N) (i : Fin 128) (k : Fin 5120) :
    (iblk m c 0 t : Vec Ideal S128x5120 .bf16) (ix2 i k) = (V m c main_v0 : Vec Ideal S8192x5120 .bf16) (ix2 (row t i) k) := by
  blk_simp [iblk]
  refine congrArg _ ?_
  blk_ext [idx0 t]

/-- What the block of window 1, the residual, reads of its array. -/
theorem iblk1 (c : Dev nD) (t : Fin cfg0.N) (i : Fin 128) (k : Fin 6912) :
    (iblk m c 1 t : Vec Ideal S128x6912 .bf16) (ix2 i k) = (V m c main_v1 : Vec Ideal S8192x6912 .bf16) (ix2 (row t i) k) := by
  blk_simp [iblk]
  refine congrArg _ ?_
  blk_ext [idx1 t]

/-- What the block of window 2, the weights, reads of its array. -/
theorem iblk2 (c : Dev nD) (t : Fin cfg0.N) : (iblk m c 2 t : Vec Ideal S6912x5120 .fp8e4m3) = V m c main_arg2 := by
  funext y
  blk_simp [iblk]
  refine congrArg _ ?_
  blk_ext [idx2 t]

/-- What the block of window 3, the weights' scales, reads of its array. -/
theorem iblk3 (c : Dev nD) (t : Fin cfg0.N) : (iblk m c 3 t : Vec Ideal S1x6912 .f32) = V m c main_v2 := by
  funext y
  blk_simp [iblk]
  refine congrArg _ ?_
  blk_ext [idx3 t]

/-- What the block of window 4, the post-norm weights, reads of its array. -/
theorem iblk4 (c : Dev nD) (t : Fin cfg0.N) : (iblk m c 4 t : Vec Ideal S1x6912 .f32) = V m c main_v3 := by
  funext y
  blk_simp [iblk]
  refine congrArg _ ?_
  blk_ext [idx4 t]

/-- What the block of window 5, the pre-norm weights, reads of its array. -/
theorem iblk5 (c : Dev nD) (t : Fin cfg0.N) : (iblk m c 5 t : Vec Ideal S1x6912 .f32) = V m c main_v4 := by
  funext y
  blk_simp [iblk]
  refine congrArg _ ?_
  blk_ext [idx5 t]

/-- Where the block of window 6, the sum, lies in its array. -/
theorem emb6 (t : Fin cfg0.N) (i : Fin 128) (j : Fin 6912) :
    ((cfg0.win 6).blk t).view.emb (ix2 i j : S128x6912.Idx) = (ix2 (row t i) j : S8192x6912.Idx) := by
  blk_ext [idx6 t]

/-- Where the block of window 7, the input's codes, lies in its array. -/
theorem emb7 (t : Fin cfg0.N) (i : Fin 128) (j : Fin 5120) :
    ((cfg0.win 7).blk t).view.emb (ix2 i j : S128x5120.Idx) = (ix2 (row t i) j : S8192x5120.Idx) := by
  blk_ext [idx7 t]

/-- Where the block of window 8, the input's scales, lies in its array. -/
theorem emb8 (t : Fin cfg0.N) (i : Fin 128) (j : Fin 1) :
    ((cfg0.win 8).blk t).view.emb (ix2 i j : S128x1.Idx) = (ix2 (row t i) j : S8192x1.Idx) := by
  blk_ext [idx8 t]

/-- Where the block of window 9, the last codes, lies in its array. -/
theorem emb9 (t : Fin cfg0.N) (i : Fin 128) (j : Fin 6912) :
    ((cfg0.win 9).blk t).view.emb (ix2 i j : S128x6912.Idx) = (ix2 (row t i) j : S8192x6912.Idx) := by
  blk_ext [idx9 t]

/-- Where the block of window 10, the last scales, lies in its array. -/
theorem emb10 (t : Fin cfg0.N) (i : Fin 128) (j : Fin 1) :
    ((cfg0.win 10).blk t).view.emb (ix2 i j : S128x1.Idx) = (ix2 (row t i) j : S8192x1.Idx) := by
  blk_ext [idx10 t]

section Arrays

variable (c : Dev nD)

/-- The rows of the arrays the grid reads. -/
abbrev X (r : Fin 8192) (k : Fin 5120) : EReal := (V m c main_v0 : Vec Ideal S8192x5120 .bf16) (ix2 r k)
/-- Row `r` of the residual. -/
abbrev R (r : Fin 8192) (j : Fin 6912) : EReal := (V m c main_v1 : Vec Ideal S8192x6912 .bf16) (ix2 r j)
/-- Row `j` of the weights. -/
abbrev W (j : Fin 6912) (k : Fin 5120) : EReal := (V m c main_arg2 : Vec Ideal S6912x5120 .fp8e4m3) (ix2 j k)
/-- The weights' scales. -/
abbrev WS (j : Fin 6912) : EReal := (V m c main_v2 : Vec Ideal S1x6912 .f32) (ix2 0 j)
/-- The post-norm weights. -/
abbrev GP (j : Fin 6912) : EReal := (V m c main_v3 : Vec Ideal S1x6912 .f32) (ix2 0 j)
/-- The pre-norm weights. -/
abbrev GQ (j : Fin 6912) : EReal := (V m c main_v4 : Vec Ideal S1x6912 .f32) (ix2 0 j)

/-- The row of the sum, and the row that is quantised last. -/
abbrev H (r : Fin 8192) : Fin 6912 → EReal := hrow (X m c r) (W m c) (WS m c) (GP m c) (R m c r)
/-- The row that is quantised last. -/
abbrev Z (r : Fin 8192) : Fin 6912 → EReal := norm (H m c r) (GQ m c)

/-- Row `i` of the block is row `row t i` of the input. -/
theorem rowsX_eq (t : Fin cfg0.N) (i : Fin 128) : rowsX (iblk m c 0 t) i = X m c (row t i) :=
  funext fun k => iblk0 m c t i k

/-- Likewise of the sum. -/
theorem blockH_eq (t : Fin cfg0.N) (i : Fin 128) :
    blockH (iblk m c 0 t) (iblk m c 1 t) (iblk m c 2 t) (iblk m c 3 t) (iblk m c 4 t) i = H m c (row t i) := by
  have e1 : rowsR (iblk m c 1 t) i = R m c (row t i) := funext fun j => iblk1 m c t i j
  have e2 : rowsW (iblk m c 2 t) = W m c := congrArg rowsW (iblk2 m c t)
  have e3 : rowV (iblk m c 3 t) = WS m c := congrArg rowV (iblk3 m c t)
  have e4 : rowV (iblk m c 4 t) = GP m c := congrArg rowV (iblk4 m c t)
  show hrow (rowsX (iblk m c 0 t) i) (rowsW (iblk m c 2 t)) (rowV (iblk m c 3 t)) (rowV (iblk m c 4 t))
    (rowsR (iblk m c 1 t) i) = _
  rw [rowsX_eq, e1, e2, e3, e4]

/-- Likewise of the row quantised last. -/
theorem rowZ_eq (t : Fin cfg0.N) (i : Fin 128) :
    norm (blockH (iblk m c 0 t) (iblk m c 1 t) (iblk m c 2 t) (iblk m c 3 t) (iblk m c 4 t) i) (rowV (iblk m c 5 t))
      = Z m c (row t i) := by
  have e5 : rowV (iblk m c 5 t) = GQ m c := congrArg rowV (iblk5 m c t)
  rw [blockH_eq, e5]

/-- The scale of a row keeps within the format: the quotient is below 2^126. -/
abbrev Below {n : ℕ} (v : Fin n → EReal) : Prop := quot v < (((2 : ℝ) ^ (126 : ℤ) : ℝ) : EReal)

variable (hX : ∀ r, Below (X m c r))
include hX

/-- The block's input rows keep within the format. -/
theorem belowX (t : Fin cfg0.N) (i : Fin 128) : Below (rowsX (iblk m c 0 t) i) := by
  rw [rowsX_eq]
  exact hX _

/-- The sum. -/
theorem final_h : (dats m 0 c).arrAt 6 cfg0.N = (fun i => H m c (i 0) (i 1) : Vec Ideal S8192x6912 .bf16) := by
  refine (dats m 0 c).arrAt_eq_of_covers 6 _ (by decide +kernel) fun t _ (y : S128x6912.Idx) => ?_
  obtain ⟨i, j, rfl⟩ : ∃ i j, y = ix2 i j := ⟨_, _, eq_ix2 y⟩
  refine (congrFun (Value.flushed6_A m c t) (ix2 i j)).trans ?_
  rw [emb6]
  show _ = H m c (row t i) j
  rw [← blockH_eq]
  exact out_h (hX := belowX m c hX t) ..

/-- The codes of the input's rows. -/
theorem final_xcode : (dats m 0 c).arrAt 7 cfg0.N = (fun i => code (X m c (i 0)) (i 1) : Vec Ideal S8192x5120 .fp8e4m3) := by
  refine (dats m 0 c).arrAt_eq_of_covers 7 _ (by decide +kernel) fun t _ (y : S128x5120.Idx) => ?_
  obtain ⟨i, j, rfl⟩ : ∃ i j, y = ix2 i j := ⟨_, _, eq_ix2 y⟩
  refine (congrFun (Value.flushed7_A m c t) (ix2 i j)).trans ?_
  rw [emb7]
  show _ = code (X m c (row t i)) j
  rw [← rowsX_eq]
  exact out_xcode (hX := belowX m c hX t) ..

/-- The scales of the input's rows. -/
theorem final_xscale : (dats m 0 c).arrAt 8 cfg0.N = (fun i => scl (X m c (i 0)) : Vec Ideal S8192x1 .f32) := by
  refine (dats m 0 c).arrAt_eq_of_covers 8 _ (by decide +kernel) fun t _ (y : S128x1.Idx) => ?_
  obtain ⟨i, j, rfl⟩ : ∃ i j, y = ix2 i j := ⟨_, _, eq_ix2 y⟩
  refine (congrFun (Value.flushed8_A m c t) (ix2 i j)).trans ?_
  rw [emb8]
  obtain rfl : j = 0 := Subsingleton.elim _ _
  show _ = scl (X m c (row t i))
  rw [← rowsX_eq]
  exact out_xscale (hX := belowX m c hX t) ..

variable (hZ : ∀ r, Below (Z m c r))
include hZ

/-- The block's last rows keep within the format. -/
theorem belowZ (t : Fin cfg0.N) (i : Fin 128) :
    Below (norm (blockH (iblk m c 0 t) (iblk m c 1 t) (iblk m c 2 t) (iblk m c 3 t) (iblk m c 4 t) i) (rowV (iblk m c 5 t))) := by
  rw [rowZ_eq]
  exact hZ _

/-- The codes of the last rows. -/
theorem final_zcode : (dats m 0 c).arrAt 9 cfg0.N = (fun i => code (Z m c (i 0)) (i 1) : Vec Ideal S8192x6912 .fp8e4m3) := by
  refine (dats m 0 c).arrAt_eq_of_covers 9 _ (by decide +kernel) fun t _ (y : S128x6912.Idx) => ?_
  obtain ⟨i, j, rfl⟩ : ∃ i j, y = ix2 i j := ⟨_, _, eq_ix2 y⟩
  refine (congrFun (Value.flushed9_A m c t) (ix2 i j)).trans ?_
  rw [emb9]
  show _ = code (Z m c (row t i)) j
  rw [← rowZ_eq]
  exact out_zcode (hX := belowX m c hX t) (hZ := belowZ m c hX hZ t) ..

/-- The scales of the last rows. -/
theorem final_zscale : (dats m 0 c).arrAt 10 cfg0.N = (fun i => scl (Z m c (i 0)) : Vec Ideal S8192x1 .f32) := by
  refine (dats m 0 c).arrAt_eq_of_covers 10 _ (by decide +kernel) fun t _ (y : S128x1.Idx) => ?_
  obtain ⟨i, j, rfl⟩ : ∃ i j, y = ix2 i j := ⟨_, _, eq_ix2 y⟩
  refine (congrFun (Value.flushed10_A m c t) (ix2 i j)).trans ?_
  rw [emb10]
  obtain rfl : j = 0 := Subsingleton.elim _ _
  show _ = scl (Z m c (row t i))
  rw [← rowZ_eq]
  exact out_zscale (hX := belowX m c hX t) (hZ := belowZ m c hX hZ t) ..

end Arrays

end Cert.Final
-- ==== Proof.RefRows.lean ====
/- The reference's whole-array terms read at an index over the extended reals: the row functions of Row.lean. -/
module

public import proofs.«01_k».proof.Proof.Gen.ReferenceIdeal.Frame
public import proofs.«01_k».proof.Proof.Row
public import Idealize.ShloMosaic.Lib.Pointwise

@[expose] public section

set_option maxRecDepth 16384

noncomputable section

namespace Cert.RefRows

open Idealize.ShloMosaic Idealize.ShloMosaic.TcCoe
open Cert.ReferenceIdeal Cert.ReferenceIdeal.Gen Cert.Row

/-- The numbers 0 … 252 along a row. -/
abbrev lanes : IVec S1x253 32 := iota .tc S1x253 32 [1] iota_S1x253_d1_w32

/-- Lane `k`, shifted, is the integer `k - 125`. -/
theorem toInt_lane : ∀ k : Fin 253, (BitVec.ofNat 32 k.val - 125#32).toInt = (k.val : ℤ) - 125 := by decide +kernel

/-- Two to the float of that integer is the power of two. -/
theorem pow_lane (k : Fin 253) :
    FloatOps.exp2 (F := Ideal) (φ := .f32) (FloatOps.sitofp .f32 (IntOp.subi (BitVec.ofNat 32 k.val) 125#32))
      = (((2 : ℝ) ^ ((k.val : ℤ) - 125) : ℝ) : EReal) := by
  show Ideal.exp2 (((IntOp.subi (BitVec.ofNat 32 k.val) 125#32).toInt : ℝ) : EReal) = _
  rw [show (IntOp.subi (BitVec.ofNat 32 k.val) 125#32).toInt = (k.val : ℤ) - 125 from toInt_lane k, Ideal.exp2_coe]
  exact congrArg _ (Real.rpow_intCast 2 _)

/-- f32's infinity. -/
theorem posInf_eq : Ideal.ofBits .f32 0x7F800000#32 = ⊤ := by
  simp [Ideal.ofBits, Ideal.ieee]

/-- f32's smallest normal number. -/
theorem minNormal_eq : Ideal.ofBits .f32 0x00800000#32 = (((2 : ℝ) ^ (-126 : ℤ) : ℝ) : EReal) := by
  simp [Ideal.ofBits, Ideal.ieee]
  rw [← EReal.coe_mul]
  norm_num

/-- The reference's scale of a column of quotients. -/
theorem scale_apply (t : FVec Ideal S8192x1 .f32) (r : Fin 8192) : k0_pay1 t lanes (ix2 r 0) = Exponent.scale (t (ix2 r 0)) := by
  pointwise [k0_pay1]
  simp only [pow_lane, posInf_eq, minNormal_eq]
  rfl

/-- f32's negative infinity. -/
theorem negInf_eq : Ideal.ofBits .f32 0xFF800000#32 = ⊥ := by
  simp [Ideal.ofBits, Ideal.ieee]

/-- The mean over 6912 columns is the sum times 1/6912. -/
theorem div_n (a : EReal) : Ideal.div a (Ideal.ofBits .f32 0x45D80000#32) = a * ((1 / 6912 : ℝ) : EReal) := by
  rw [n6912_eq, Ideal.div_coe (by norm_num : (6912 : ℝ) ≠ 0)]

/-- A maximum folded from -∞ is the supremum. -/
theorem fold_max_bot {n : ℕ} (f : Fin n → EReal) : Finset.univ.fold max ⊥ f = Finset.univ.sup f := rfl

/-- A row's maximum, of any number of rows and columns. -/
theorem max_apply {n m : ℕ} (v : FVec Ideal ⟨2, ![n, m]⟩ .f32) (h : (⟨2, ![n, m]⟩ : Shape).Reduces [1] ⟨1, ![n]⟩)
    (p q) (r : Fin n) :
    multiReduction .maximumf [1] ⟨1, ![n]⟩ v 0xFF800000#32 h p q (ix1 r) = Finset.univ.sup fun k => v (ix2 r k) := by
  rw [multiReduction_maximumf_eq_fold, h.fold_fiber_r2_a1]
  exact (congrArg (fun a => Finset.univ.fold max a fun k => v (ix2 r k)) negInf_eq).trans (fold_max_bot _)

/-- The quotients of the rows of a vector: the largest magnitude times f32(1/448). -/
theorem quot_apply {m : ℕ} (h : (⟨2, ![8192, m]⟩ : Shape).Reduces [1] S8192) (p q)
    (v : FVec Ideal ⟨2, ![8192, m]⟩ .f32) (r : Fin 8192) (hc : S8192.ShapeCasts S8192x1) :
    mulf (shapeCast S8192x1 (multiReduction .maximumf [1] S8192 (absf v) 0xFF800000#32 h p q) hc)
      (broadcast S8192x1 (Scalar.ofBits .f32 0x3B124925#32)) (ix2 r 0) = quot fun k => v (ix2 r k) := by
  have e := max_apply (absf v) h p q r
  generalize multiReduction .maximumf [1] S8192 (absf v) 0xFF800000#32 h p q = t at e
  rw [quot]
  refine Eq.trans (b := t (ix1 r) * c448) ?_ (congrArg (· * c448) e)
  clear e
  pointwise

section Rows

variable (x : FVec Ideal S8192x5120 .bf16) (w : FVec Ideal S6912x5120 .fp8e4m3) (ws gp gq : FVec Ideal S1x6912 .f32)
  (res : FVec Ideal S8192x6912 .bf16)

/-- The input read wide is the input. -/
theorem wide_apply (r : Fin 8192) (k : Fin 5120) : k0_pay3 (F := Ideal) x (ix2 r k) = x (ix2 r k) := by
  pointwise [k0_pay3]

/-- The quotients of the input's rows. -/
def xquot : FVec Ideal S8192x1 .f32 :=
  mulf (shapeCast S8192x1 (multiReduction .maximumf [1] S8192 (absf (k0_pay3 x)) 0xFF800000#32 reduces_S8192x5120_S8192
    (.inl rfl) rfl) shapeCasts_S8192_S8192x1) (broadcast S8192x1 (Scalar.ofBits .f32 0x3B124925#32))

/-- The quotient of a row of the input. -/
theorem xquot_apply (r : Fin 8192) : xquot x (ix2 r 0) = quot (fun k => x (ix2 r k)) := by
  unfold xquot
  have h := wide_apply x r
  generalize k0_pay3 (F := Ideal) x = v at h
  simp only [← h]
  exact quot_apply _ _ _ v r _

/-- The scale of a row of the input. -/
theorem xscale_apply (r : Fin 8192) : k0_pay4 (F := Ideal) x (ix2 r 0) = scl (fun k => x (ix2 r k)) := by
  have e : k0_pay4 (F := Ideal) x = k0_pay1 (xquot x) lanes := rfl
  rw [e, scale_apply, xquot_apply]
  rfl

/-- A row's codes, read off the vector of the row and the scale. -/
theorem clip_apply (v : FVec Ideal S8192x5120 .f32) (s : FVec Ideal S8192x1 .f32) (r : Fin 8192) (k : Fin 5120) :
    truncf FTy.fp8e4m3 (minimumf (broadcast S8192x5120 (Scalar.ofBits FTy.f32 0x43E00000#32))
      (maximumf (broadcast S8192x5120 (Scalar.ofBits FTy.f32 0xC3E00000#32)) (mulf v
        (broadcastTo S8192x5120 (divf (broadcast S8192x1 (Scalar.ofBits FTy.f32 0x3F800000#32)) s)
          broadcasts_S8192x1_S8192x5120)))) bitsLt_fp8e4m3_f32 (ix2 r k)
      = min hi (max lo (v (ix2 r k) * Ideal.div 1 (s (ix2 r 0)))) := by
  pointwise

/-- The codes of a row of the input. -/
theorem xcode_apply (r : Fin 8192) (k : Fin 5120) :
    k0_pay5 (F := Ideal) x (ix2 r k) = code (fun k => x (ix2 r k)) k := by
  refine (clip_apply (k0_pay3 (F := Ideal) x) (k0_pay4 (F := Ideal) x) r k).trans ?_
  rw [wide_apply, xscale_apply, code]

/-- The scaled product, by rows. -/
theorem y_apply (r : Fin 8192) (j : Fin 6912) :
    k0_pay6 (F := Ideal) x w ws (ix2 r j)
      = yrow (fun k => x (ix2 r k)) (fun j k => w (ix2 j k)) (fun j => ws (ix2 0 j)) j := by
  unfold k0_pay6
  have h := xscale_apply x r
  have h' := xcode_apply x r
  generalize k0_pay4 (F := Ideal) x = s at h
  generalize k0_pay5 (F := Ideal) x = q at h'
  pointwise
  rw [h]
  simp only [h']
  rfl

variable (y : FVec Ideal S8192x6912 .f32)

/-- The sum, by rows. -/
theorem h_apply (r : Fin 8192) (j : Fin 6912) :
    k0_pay7 (F := Ideal) y gp res (ix2 r j)
      = norm (fun j => y (ix2 r j)) (fun j => gp (ix2 0 j)) j + res (ix2 r j) := by
  pointwise [k0_pay7]
  rw [div_n]
  rfl

/-- The next normed row. -/
theorem z_apply (r : Fin 8192) (j : Fin 6912) :
    k0_pay8 (F := Ideal) y gp res gq (ix2 r j)
      = norm (fun j => norm (fun j => y (ix2 r j)) (fun j => gp (ix2 0 j)) j + res (ix2 r j)) (fun j => gq (ix2 0 j)) j := by
  unfold k0_pay8
  have h := h_apply gp res y r
  generalize k0_pay7 (F := Ideal) y gp res = v at h
  pointwise
  rw [div_n]
  simp only [h]
  rfl

/-- The quotient of the next normed row. -/
theorem zquot_apply (r : Fin 8192) :
    k0_pay9 (F := Ideal) y gp res gq (ix2 r 0)
      = quot (norm (fun j => norm (fun j => y (ix2 r j)) (fun j => gp (ix2 0 j)) j + res (ix2 r j)) (fun j => gq (ix2 0 j))) := by
  unfold k0_pay9
  have h := z_apply gp gq res y r
  generalize k0_pay8 (F := Ideal) y gp res gq = v at h
  have e : norm (fun j => norm (fun j => y (ix2 r j)) (fun j => gp (ix2 0 j)) j + res (ix2 r j)) (fun j => gq (ix2 0 j))
      = fun j => v (ix2 r j) := funext fun j => (h j).symm
  rw [e]
  exact quot_apply _ _ _ v r _

/-- The codes of any array, from its quotients. -/
theorem zcode_apply (z : FVec Ideal S8192x6912 .f32) (t : FVec Ideal S8192x1 .f32) (r : Fin 8192) (j : Fin 6912) :
    k0_pay2 (F := Ideal) z t lanes (ix2 r j)
      = min hi (max lo (z (ix2 r j) * Ideal.div 1 (Exponent.scale (t (ix2 r 0))))) := by
  unfold k0_pay2
  have h := scale_apply t r
  generalize k0_pay1 (F := Ideal) t lanes = s at h
  pointwise
  rw [h]

end Rows

end Cert.RefRows
-- ==== Proof.RefFinal.lean ====
/- The reference's five result arrays over the extended reals, row by row: row `r` of each is a function of Row.lean of row
   `r` of the arrays the kernel call reads. -/
module

public import proofs.«01_k».proof.Proof.Gen.ReferenceIdeal.Value
public import proofs.«01_k».proof.Proof.RefRows
public import Idealize.ShloMosaic.Lib.Pipeline.ValueKit.Point

@[expose] public section

set_option maxRecDepth 16384

noncomputable section

namespace Cert.RefFinal

open Idealize.ShloMosaic Idealize.ShloMosaic.TcCoe Idealize.SL.Sem
open Cert.ReferenceIdeal Cert.ReferenceIdeal.Gen Cert.Row Cert.RefRows

variable (m : (ℓ : Loc nD τ sig) → Buf (Elt Ideal) ℓ)

/-- The offset of a store of a whole array. -/
theorem hz : (![0, 0] : Fin 2 → Nat) = fun _ => 0 := funext (Fin.forall_fin_two.mpr ⟨rfl, rfl⟩)

/-- The block index of window 0, the input. -/
theorem idx0 : ∀ t : Fin cfg0.N, win0_0.index t = ![0, 0] := (by decide +kernel : ∀ t : Fin grid0.N, _)
/-- The block index of window 1, the residual. -/
theorem idx1 : ∀ t : Fin cfg0.N, win0_1.index t = ![0, 0] := (by decide +kernel : ∀ t : Fin grid0.N, _)
/-- The block index of window 2, the weights. -/
theorem idx2 : ∀ t : Fin cfg0.N, win0_2.index t = ![0, 0] := (by decide +kernel : ∀ t : Fin grid0.N, _)
/-- The block index of window 3, the weights' scales. -/
theorem idx3 : ∀ t : Fin cfg0.N, win0_3.index t = ![0, 0] := (by decide +kernel : ∀ t : Fin grid0.N, _)
/-- The block index of window 4, the post-norm weights. -/
theorem idx4 : ∀ t : Fin cfg0.N, win0_4.index t = ![0, 0] := (by decide +kernel : ∀ t : Fin grid0.N, _)
/-- The block index of window 5, the pre-norm weights. -/
theorem idx5 : ∀ t : Fin cfg0.N, win0_5.index t = ![0, 0] := (by decide +kernel : ∀ t : Fin grid0.N, _)
/-- The block index of window 6, the sum. -/
theorem idx6 : ∀ t : Fin cfg0.N, win0_6.index t = ![0, 0] := (by decide +kernel : ∀ t : Fin grid0.N, _)
/-- The block index of window 7, the input's codes. -/
theorem idx7 : ∀ t : Fin cfg0.N, win0_7.index t = ![0, 0] := (by decide +kernel : ∀ t : Fin grid0.N, _)
/-- The block index of window 8, the input's scales. -/
theorem idx8 : ∀ t : Fin cfg0.N, win0_8.index t = ![0, 0] := (by decide +kernel : ∀ t : Fin grid0.N, _)
/-- The block index of window 9, the last codes. -/
theorem idx9 : ∀ t : Fin cfg0.N, win0_9.index t = ![0, 0] := (by decide +kernel : ∀ t : Fin grid0.N, _)
/-- The block index of window 10, the last scales. -/
theorem idx10 : ∀ t : Fin cfg0.N, win0_10.index t = ![0, 0] := (by decide +kernel : ∀ t : Fin grid0.N, _)

/-- What the block of window 0, the input, reads of its array. -/
theorem iblk0 (c : Dev nD) (t : Fin cfg0.N) : (iblk m c 0 t : Vec Ideal S8192x5120 .bf16) = V m c main_v0 := by
  funext y
  blk_simp [iblk]
  refine congrArg _ ?_
  blk_ext [idx0 t]

/-- What the block of window 1, the residual, reads of its array. -/
theorem iblk1 (c : Dev nD) (t : Fin cfg0.N) : (iblk m c 1 t : Vec Ideal S8192x6912 .bf16) = V m c main_v1 := by
  funext y
  blk_simp [iblk]
  refine congrArg _ ?_
  blk_ext [idx1 t]

/-- What the block of window 2, the weights, reads of its array. -/
theorem iblk2 (c : Dev nD) (t : Fin cfg0.N) : (iblk m c 2 t : Vec Ideal S6912x5120 .fp8e4m3) = V m c main_arg2 := by
  funext y
  blk_simp [iblk]
  refine congrArg _ ?_
  blk_ext [idx2 t]

/-- What the block of window 3, the weights' scales, reads of its array. -/
theorem iblk3 (c : Dev nD) (t : Fin cfg0.N) : (iblk m c 3 t : Vec Ideal S1x6912 .f32) = V m c main_v2 := by
  funext y
  blk_simp [iblk]
  refine congrArg _ ?_
  blk_ext [idx3 t]

/-- What the block of window 4, the post-norm weights, reads of its array. -/
theorem iblk4 (c : Dev nD) (t : Fin cfg0.N) : (iblk m c 4 t : Vec Ideal S1x6912 .f32) = V m c main_v3 := by
  funext y
  blk_simp [iblk]
  refine congrArg _ ?_
  blk_ext [idx4 t]

/-- What the block of window 5, the pre-norm weights, reads of its array. -/
theorem iblk5 (c : Dev nD) (t : Fin cfg0.N) : (iblk m c 5 t : Vec Ideal S1x6912 .f32) = V m c main_v4 := by
  funext y
  blk_simp [iblk]
  refine congrArg _ ?_
  blk_ext [idx5 t]

/-- Where the block of window 6, the sum, lies in its array. -/
theorem emb6 (t : Fin cfg0.N) (i : Fin 8192) (j : Fin 6912) :
    ((cfg0.win 6).blk t).view.emb (ix2 i j : S8192x6912.Idx) = (ix2 i j : S8192x6912.Idx) := by
  blk_ext [idx6 t]

/-- Where the block of window 7, the input's codes, lies in its array. -/
theorem emb7 (t : Fin cfg0.N) (i : Fin 8192) (j : Fin 5120) :
    ((cfg0.win 7).blk t).view.emb (ix2 i j : S8192x5120.Idx) = (ix2 i j : S8192x5120.Idx) := by
  blk_ext [idx7 t]

/-- Where the block of window 8, the input's scales, lies in its array. -/
theorem emb8 (t : Fin cfg0.N) (i : Fin 8192) (j : Fin 1) :
    ((cfg0.win 8).blk t).view.emb (ix2 i j : S8192x1.Idx) = (ix2 i j : S8192x1.Idx) := by
  blk_ext [idx8 t]

/-- Where the block of window 9, the last codes, lies in its array. -/
theorem emb9 (t : Fin cfg0.N) (i : Fin 8192) (j : Fin 6912) :
    ((cfg0.win 9).blk t).view.emb (ix2 i j : S8192x6912.Idx) = (ix2 i j : S8192x6912.Idx) := by
  blk_ext [idx9 t]

/-- Where the block of window 10, the last scales, lies in its array. -/
theorem emb10 (t : Fin cfg0.N) (i : Fin 8192) (j : Fin 1) :
    ((cfg0.win 10).blk t).view.emb (ix2 i j : S8192x1.Idx) = (ix2 i j : S8192x1.Idx) := by
  blk_ext [idx10 t]

section Arrays

variable (c : Dev nD)

/-- The rows of the arrays the kernel call reads. -/
abbrev X (r : Fin 8192) (k : Fin 5120) : EReal := (V m c main_v0 : Vec Ideal S8192x5120 .bf16) (ix2 r k)
/-- Row `r` of the residual. -/
abbrev R (r : Fin 8192) (j : Fin 6912) : EReal := (V m c main_v1 : Vec Ideal S8192x6912 .bf16) (ix2 r j)
/-- Row `j` of the weights. -/
abbrev W (j : Fin 6912) (k : Fin 5120) : EReal := (V m c main_arg2 : Vec Ideal S6912x5120 .fp8e4m3) (ix2 j k)
/-- The weights' scales. -/
abbrev WS (j : Fin 6912) : EReal := (V m c main_v2 : Vec Ideal S1x6912 .f32) (ix2 0 j)
/-- The post-norm weights. -/
abbrev GP (j : Fin 6912) : EReal := (V m c main_v3 : Vec Ideal S1x6912 .f32) (ix2 0 j)
/-- The pre-norm weights. -/
abbrev GQ (j : Fin 6912) : EReal := (V m c main_v4 : Vec Ideal S1x6912 .f32) (ix2 0 j)

/-- The row of the sum, and the row that is quantised last. -/
abbrev H (r : Fin 8192) : Fin 6912 → EReal := hrow (X m c r) (W m c) (WS m c) (GP m c) (R m c r)
/-- The row that is quantised last. -/
abbrev Z (r : Fin 8192) : Fin 6912 → EReal := norm (H m c r) (GQ m c)

section Outs

variable (x0 : Vec Ideal S8192x5120 .bf16) (x1 : Vec Ideal S8192x6912 .bf16) (x2 : Vec Ideal S6912x5120 .fp8e4m3)
  (x3 x4 x5 : Vec Ideal S1x6912 .f32)

/-- The row of the sum, of the blocks. -/
abbrev blockH (r : Fin 8192) : Fin 6912 → EReal :=
  hrow (fun k => x0 (ix2 r k)) (fun j k => x2 (ix2 j k)) (fun j => x3 (ix2 0 j)) (fun j => x4 (ix2 0 j)) (fun j => x1 (ix2 r j))

/-- The product the reference makes, by rows. -/
theorem yrow_eq (r : Fin 8192) :
    (fun j => k0_pay6 (F := Ideal) x0 x2 x3 (ix2 r j))
      = yrow (fun k => x0 (ix2 r k)) (fun j k => x2 (ix2 j k)) (fun j => x3 (ix2 0 j)) :=
  funext fun j => y_apply x0 x2 x3 r j

/-- The stored sum, by rows. -/
theorem out_h (r : Fin 8192) (j : Fin 6912) : out0_6 (F := Ideal) x0 x1 x2 x3 x4 x5 (ix2 r j) = blockH x0 x1 x2 x3 x4 r j := by
  unfold out0_6 k0_pay10
  rw [View.canon_unit_zero hz, View.ld_unit_zero hz, View.ld_unit_zero hz, View.ld_unit_zero hz, View.ld_unit_zero hz,
    View.ld_unit_zero hz]
  rw [h_apply, yrow_eq]

/-- The stored codes of the input, by rows. -/
theorem out_xcode (r : Fin 8192) (k : Fin 5120) :
    out0_7 (F := Ideal) x0 x1 x2 x3 x4 x5 (ix2 r k) = code (fun k => x0 (ix2 r k)) k := by
  unfold out0_7
  rw [View.canon_unit_zero hz, View.ld_unit_zero hz, xcode_apply]

/-- The stored scales of the input, by rows. -/
theorem out_xscale (r : Fin 8192) :
    out0_8 (F := Ideal) x0 x1 x2 x3 x4 x5 (ix2 r 0) = scl (fun k => x0 (ix2 r k)) := by
  unfold out0_8
  rw [View.canon_unit_zero hz, View.ld_unit_zero hz, xscale_apply]

/-- The quotient whose scale is taken last, by rows. -/
theorem zquot_eq (r : Fin 8192) :
    k0_pay12 (F := Ideal) x0 x1 x2 x3 x4 x5 (ix2 r 0) = quot (norm (blockH x0 x1 x2 x3 x4 r) (fun j => x5 (ix2 0 j))) := by
  unfold k0_pay12 k0_pay10
  rw [View.ld_unit_zero hz, View.ld_unit_zero hz, View.ld_unit_zero hz, View.ld_unit_zero hz, View.ld_unit_zero hz,
    View.ld_unit_zero hz, zquot_apply, yrow_eq]

/-- The stored last codes, by rows. -/
theorem out_zcode (r : Fin 8192) (j : Fin 6912) :
    out0_9 (F := Ideal) x0 x1 x2 x3 x4 x5 (ix2 r j) = code (norm (blockH x0 x1 x2 x3 x4 r) (fun j => x5 (ix2 0 j))) j := by
  unfold out0_9 k0_pay10
  rw [View.canon_unit_zero hz]
  refine (zcode_apply _ (k0_pay12 (F := Ideal) x0 x1 x2 x3 x4 x5) r j).trans ?_
  rw [zquot_eq, View.ld_unit_zero hz, View.ld_unit_zero hz, View.ld_unit_zero hz, View.ld_unit_zero hz, View.ld_unit_zero hz,
    View.ld_unit_zero hz, z_apply, yrow_eq, code, scl]

/-- The stored last scales, by rows. -/
theorem out_zscale (r : Fin 8192) :
    out0_10 (F := Ideal) x0 x1 x2 x3 x4 x5 (ix2 r 0) = scl (norm (blockH x0 x1 x2 x3 x4 r) (fun j => x5 (ix2 0 j))) := by
  unfold out0_10
  rw [View.canon_unit_zero hz]
  refine (scale_apply (k0_pay12 (F := Ideal) x0 x1 x2 x3 x4 x5) r).trans ?_
  rw [zquot_eq, scl]

end Outs

/-- The sum. -/
theorem final_h : (dats m 0 c).arrAt 6 cfg0.N = (fun i => H m c (i 0) (i 1) : Vec Ideal S8192x6912 .bf16) := by
  refine (dats m 0 c).arrAt_eq_of_covers 6 _ (by decide +kernel) fun t _ (y : S8192x6912.Idx) => ?_
  obtain ⟨i, j, rfl⟩ : ∃ i j, y = ix2 i j := ⟨_, _, eq_ix2 y⟩
  refine (congrFun (Value.flushed6 m c t) (ix2 i j)).trans ?_
  rw [emb6, iblk0, iblk1, iblk2, iblk3, iblk4, iblk5]
  exact out_h ..

/-- The codes of the input's rows. -/
theorem final_xcode : (dats m 0 c).arrAt 7 cfg0.N = (fun i => code (X m c (i 0)) (i 1) : Vec Ideal S8192x5120 .fp8e4m3) := by
  refine (dats m 0 c).arrAt_eq_of_covers 7 _ (by decide +kernel) fun t _ (y : S8192x5120.Idx) => ?_
  obtain ⟨i, j, rfl⟩ : ∃ i j, y = ix2 i j := ⟨_, _, eq_ix2 y⟩
  refine (congrFun (Value.flushed7 m c t) (ix2 i j)).trans ?_
  rw [emb7, iblk0, iblk1, iblk2, iblk3, iblk4, iblk5]
  exact out_xcode ..

/-- The scales of the input's rows. -/
theorem final_xscale : (dats m 0 c).arrAt 8 cfg0.N = (fun i => scl (X m c (i 0)) : Vec Ideal S8192x1 .f32) := by
  refine (dats m 0 c).arrAt_eq_of_covers 8 _ (by decide +kernel) fun t _ (y : S8192x1.Idx) => ?_
  obtain ⟨i, j, rfl⟩ : ∃ i j, y = ix2 i j := ⟨_, _, eq_ix2 y⟩
  refine (congrFun (Value.flushed8 m c t) (ix2 i j)).trans ?_
  rw [emb8, iblk0, iblk1, iblk2, iblk3, iblk4, iblk5]
  obtain rfl : j = 0 := Subsingleton.elim _ _
  exact out_xscale ..

/-- The codes of the last rows. -/
theorem final_zcode : (dats m 0 c).arrAt 9 cfg0.N = (fun i => code (Z m c (i 0)) (i 1) : Vec Ideal S8192x6912 .fp8e4m3) := by
  refine (dats m 0 c).arrAt_eq_of_covers 9 _ (by decide +kernel) fun t _ (y : S8192x6912.Idx) => ?_
  obtain ⟨i, j, rfl⟩ : ∃ i j, y = ix2 i j := ⟨_, _, eq_ix2 y⟩
  refine (congrFun (Value.flushed9 m c t) (ix2 i j)).trans ?_
  rw [emb9, iblk0, iblk1, iblk2, iblk3, iblk4, iblk5]
  exact out_zcode ..

/-- The scales of the last rows. -/
theorem final_zscale : (dats m 0 c).arrAt 10 cfg0.N = (fun i => scl (Z m c (i 0)) : Vec Ideal S8192x1 .f32) := by
  refine (dats m 0 c).arrAt_eq_of_covers 10 _ (by decide +kernel) fun t _ (y : S8192x1.Idx) => ?_
  obtain ⟨i, j, rfl⟩ : ∃ i j, y = ix2 i j := ⟨_, _, eq_ix2 y⟩
  refine (congrFun (Value.flushed10 m c t) (ix2 i j)).trans ?_
  rw [emb10, iblk0, iblk1, iblk2, iblk3, iblk4, iblk5]
  obtain rfl : j = 0 := Subsingleton.elim _ _
  exact out_zscale ..

end Arrays

end Cert.RefFinal
-- ==== Proof.Algebraic.lean ====
/- The value claim: from memories that agree on the arguments, under the precondition, the kernel and the reference end
   with equal results over the extended reals. Each side's final arrays are functions of Row.lean of the rows of the
   arrays its call reads (Final.lean, RefFinal.lean); those arrays are the reshaped arguments on both sides. -/
module

public import proofs.«01_k».proof.Defs
public import proofs.«01_k».proof.Proof.Gen.Pre_finite
public import proofs.«01_k».proof.Proof.Final
public import proofs.«01_k».proof.Proof.RefFinal
public import Idealize.ShloMosaic.Lib.Claim

@[expose] public section

set_option maxRecDepth 16384

noncomputable section

namespace Cert.Algebraic

open Idealize.ShloMosaic Idealize.ShloMosaic.TcCoe Idealize.SL.Sem
open Cert.Row

/-- The kernel program's memory, and the reference program's. -/
abbrev MemK := (ℓ : Loc KernelIdeal.nD KernelIdeal.τ KernelIdeal.sig) → Buf (Elt Ideal) ℓ
/-- The reference program's memory. -/
abbrev MemR := (ℓ : Loc ReferenceIdeal.nD ReferenceIdeal.τ ReferenceIdeal.sig) → Buf (Elt Ideal) ℓ

variable (m : MemK) (m' : MemR)

/-! ## The arrays the two calls read are the reshaped arguments -/

/-- The kernel's call reads the input as given, up to the shape. -/
theorem kX (c : Dev KernelIdeal.nD) :
    (KernelIdeal.Gen.V m c KernelIdeal.main_v0 : Vec Ideal KernelIdeal.S8192x5120 .bf16)
      = shapeCast KernelIdeal.S8192x5120 (m ((c.tc : Thread KernelIdeal.nD KernelIdeal.τ).loc KernelIdeal.main_arg0) : Vec Ideal KernelIdeal.S2x4096x5120 .bf16) KernelIdeal.Gen.facts.shapeCasts_S2x4096x5120_S8192x5120 := by
  entry_read
  rfl

/-- The reference's call reads the input as given, up to the shape. -/
theorem rX (c : Dev ReferenceIdeal.nD) :
    (ReferenceIdeal.Gen.V m' c ReferenceIdeal.main_v0 : Vec Ideal ReferenceIdeal.S8192x5120 .bf16)
      = shapeCast ReferenceIdeal.S8192x5120 (m' ((c.tc : Thread ReferenceIdeal.nD ReferenceIdeal.τ).loc ReferenceIdeal.main_arg0) : Vec Ideal ReferenceIdeal.S2x4096x5120 .bf16) ReferenceIdeal.Gen.facts.shapeCasts_S2x4096x5120_S8192x5120 := by
  entry_read
  rfl

/-- The kernel's call reads the residual as given, up to the shape. -/
theorem kR (c : Dev KernelIdeal.nD) :
    (KernelIdeal.Gen.V m c KernelIdeal.main_v1 : Vec Ideal KernelIdeal.S8192x6912 .bf16)
      = shapeCast KernelIdeal.S8192x6912 (m ((c.tc : Thread KernelIdeal.nD KernelIdeal.τ).loc KernelIdeal.main_arg1) : Vec Ideal KernelIdeal.S2x4096x6912 .bf16) KernelIdeal.Gen.facts.shapeCasts_S2x4096x6912_S8192x6912 := by
  entry_read
  rfl

/-- The reference's call reads the residual as given, up to the shape. -/
theorem rR (c : Dev ReferenceIdeal.nD) :
    (ReferenceIdeal.Gen.V m' c ReferenceIdeal.main_v1 : Vec Ideal ReferenceIdeal.S8192x6912 .bf16)
      = shapeCast ReferenceIdeal.S8192x6912 (m' ((c.tc : Thread ReferenceIdeal.nD ReferenceIdeal.τ).loc ReferenceIdeal.main_arg1) : Vec Ideal ReferenceIdeal.S2x4096x6912 .bf16) ReferenceIdeal.Gen.facts.shapeCasts_S2x4096x6912_S8192x6912 := by
  entry_read
  rfl

/-- The kernel's call reads the weights' scales as given, up to the shape. -/
theorem kWS (c : Dev KernelIdeal.nD) :
    (KernelIdeal.Gen.V m c KernelIdeal.main_v2 : Vec Ideal KernelIdeal.S1x6912 .f32)
      = shapeCast KernelIdeal.S1x6912 (m ((c.tc : Thread KernelIdeal.nD KernelIdeal.τ).loc KernelIdeal.main_arg3) : Vec Ideal KernelIdeal.S6912 .f32) KernelIdeal.Gen.facts.shapeCasts_S6912_S1x6912 := by
  entry_read
  rfl

/-- The reference's call reads the weights' scales as given, up to the shape. -/
theorem rWS (c : Dev ReferenceIdeal.nD) :
    (ReferenceIdeal.Gen.V m' c ReferenceIdeal.main_v2 : Vec Ideal ReferenceIdeal.S1x6912 .f32)
      = shapeCast ReferenceIdeal.S1x6912 (m' ((c.tc : Thread ReferenceIdeal.nD ReferenceIdeal.τ).loc ReferenceIdeal.main_arg3) : Vec Ideal ReferenceIdeal.S6912 .f32) ReferenceIdeal.Gen.facts.shapeCasts_S6912_S1x6912 := by
  entry_read
  rfl

/-- The kernel's call reads the post-norm weights as given, up to the shape. -/
theorem kGP (c : Dev KernelIdeal.nD) :
    (KernelIdeal.Gen.V m c KernelIdeal.main_v3 : Vec Ideal KernelIdeal.S1x6912 .f32)
      = shapeCast KernelIdeal.S1x6912 (m ((c.tc : Thread KernelIdeal.nD KernelIdeal.τ).loc KernelIdeal.main_arg4) : Vec Ideal KernelIdeal.S6912 .f32) KernelIdeal.Gen.facts.shapeCasts_S6912_S1x6912 := by
  entry_read
  rfl

/-- The reference's call reads the post-norm weights as given, up to the shape. -/
theorem rGP (c : Dev ReferenceIdeal.nD) :
    (ReferenceIdeal.Gen.V m' c ReferenceIdeal.main_v3 : Vec Ideal ReferenceIdeal.S1x6912 .f32)
      = shapeCast ReferenceIdeal.S1x6912 (m' ((c.tc : Thread ReferenceIdeal.nD ReferenceIdeal.τ).loc ReferenceIdeal.main_arg4) : Vec Ideal ReferenceIdeal.S6912 .f32) ReferenceIdeal.Gen.facts.shapeCasts_S6912_S1x6912 := by
  entry_read
  rfl

/-- The kernel's call reads the pre-norm weights as given, up to the shape. -/
theorem kGQ (c : Dev KernelIdeal.nD) :
    (KernelIdeal.Gen.V m c KernelIdeal.main_v4 : Vec Ideal KernelIdeal.S1x6912 .f32)
      = shapeCast KernelIdeal.S1x6912 (m ((c.tc : Thread KernelIdeal.nD KernelIdeal.τ).loc KernelIdeal.main_arg5) : Vec Ideal KernelIdeal.S6912 .f32) KernelIdeal.Gen.facts.shapeCasts_S6912_S1x6912 := by
  entry_read
  rfl

/-- The reference's call reads the pre-norm weights as given, up to the shape. -/
theorem rGQ (c : Dev ReferenceIdeal.nD) :
    (ReferenceIdeal.Gen.V m' c ReferenceIdeal.main_v4 : Vec Ideal ReferenceIdeal.S1x6912 .f32)
      = shapeCast ReferenceIdeal.S1x6912 (m' ((c.tc : Thread ReferenceIdeal.nD ReferenceIdeal.τ).loc ReferenceIdeal.main_arg5) : Vec Ideal ReferenceIdeal.S6912 .f32) ReferenceIdeal.Gen.facts.shapeCasts_S6912_S1x6912 := by
  entry_read
  rfl

/-- The kernel's call reads the weights as given. -/
theorem kW (c : Dev KernelIdeal.nD) :
    KernelIdeal.Gen.V m c KernelIdeal.main_arg2 = m ((c.tc : Thread KernelIdeal.nD KernelIdeal.τ).loc KernelIdeal.main_arg2) := by
  entry_read
  rfl

/-- The reference's call reads the weights as given. -/
theorem rW (c : Dev ReferenceIdeal.nD) :
    ReferenceIdeal.Gen.V m' c ReferenceIdeal.main_arg2 = m' ((c.tc : Thread ReferenceIdeal.nD ReferenceIdeal.τ).loc ReferenceIdeal.main_arg2) := by
  entry_read
  rfl

/-! ## Equal arguments, equal rows -/

section Agree

variable (c : Dev KernelIdeal.nD)

/-- The two calls read equal rows of the input. -/
theorem X_eq (h : m' ((c.tc : Thread ReferenceIdeal.nD ReferenceIdeal.τ).loc ReferenceIdeal.main_arg0)
      = m ((c.tc : Thread KernelIdeal.nD KernelIdeal.τ).loc KernelIdeal.main_arg0)) :
    RefFinal.X m' c = Final.X m c := by
  unfold RefFinal.X Final.X
  rw [rX, kX, h]

/-- The two calls read equal rows of the residual. -/
theorem R_eq (h : m' ((c.tc : Thread ReferenceIdeal.nD ReferenceIdeal.τ).loc ReferenceIdeal.main_arg1)
      = m ((c.tc : Thread KernelIdeal.nD KernelIdeal.τ).loc KernelIdeal.main_arg1)) :
    RefFinal.R m' c = Final.R m c := by
  unfold RefFinal.R Final.R
  rw [rR, kR, h]

/-- The two calls read equal rows of the weights. -/
theorem W_eq (h : m' ((c.tc : Thread ReferenceIdeal.nD ReferenceIdeal.τ).loc ReferenceIdeal.main_arg2)
      = m ((c.tc : Thread KernelIdeal.nD KernelIdeal.τ).loc KernelIdeal.main_arg2)) :
    RefFinal.W m' c = Final.W m c := by
  unfold RefFinal.W Final.W
  rw [rW, kW, h]

/-- The two calls read equal rows of the weights' scales. -/
theorem WS_eq (h : m' ((c.tc : Thread ReferenceIdeal.nD ReferenceIdeal.τ).loc ReferenceIdeal.main_arg3)
      = m ((c.tc : Thread KernelIdeal.nD KernelIdeal.τ).loc KernelIdeal.main_arg3)) :
    RefFinal.WS m' c = Final.WS m c := by
  unfold RefFinal.WS Final.WS
  rw [rWS, kWS, h]

/-- The two calls read equal rows of the post-norm weights. -/
theorem GP_eq (h : m' ((c.tc : Thread ReferenceIdeal.nD ReferenceIdeal.τ).loc ReferenceIdeal.main_arg4)
      = m ((c.tc : Thread KernelIdeal.nD KernelIdeal.τ).loc KernelIdeal.main_arg4)) :
    RefFinal.GP m' c = Final.GP m c := by
  unfold RefFinal.GP Final.GP
  rw [rGP, kGP, h]

/-- The two calls read equal rows of the pre-norm weights. -/
theorem GQ_eq (h : m' ((c.tc : Thread ReferenceIdeal.nD ReferenceIdeal.τ).loc ReferenceIdeal.main_arg5)
      = m ((c.tc : Thread KernelIdeal.nD KernelIdeal.τ).loc KernelIdeal.main_arg5)) :
    RefFinal.GQ m' c = Final.GQ m c := by
  unfold RefFinal.GQ Final.GQ
  rw [rGQ, kGQ, h]

end Agree

/-! ## The precondition -/

/-- A comparison that holds says its operands are in order. -/
theorem le_of_cmp {x M : EReal} (h : Ideal.cmp .ole x M = 1#1) : x ≤ M := by
  by_contra hn
  simp [Ideal.cmp, hn] at h

/-- What the precondition says of the input and of the last weights. -/
theorem x_le (c : Dev KernelIdeal.nD) (h : @Pre_KernelIdeal_finite Pre_finite.Gen.facts m) (r : Fin 8192) (k : Fin 5120) :
    mag (Final.X m c r k) ≤ Ideal.ofBits .bf16 0x7F7F#16 := by
  unfold Final.X
  rw [kX]
  exact le_of_cmp (congrFun (h c).1 (Shape.reshapeEquiv _ (ix2 r k)))

/-- What the precondition says of the pre-norm weights. -/
theorem gq_le (c : Dev KernelIdeal.nD) (h : @Pre_KernelIdeal_finite Pre_finite.Gen.facts m) (j : Fin 6912) :
    mag (Final.GQ m c j) ≤ Ideal.ofBits .f32 0x7F7FFFFF#32 := by
  unfold Final.GQ
  rw [kGQ]
  exact le_of_cmp (congrFun (h c).2 (Shape.reshapeEquiv _ (ix2 0 j)))

/-- The value claim. -/
theorem algebraic : @algebraic_KernelIdeal_ReferenceIdeal_pre_finite KernelIdeal.Gen.facts ReferenceIdeal.Gen.facts
    Pre_finite.Gen.facts := by
  intro m ρ m' ρ' hpre hagree
  have hX : ∀ c r, Final.Below (Final.X m c r) := fun c r => quot_x_lt _ (x_le m c hpre r)
  have hZ : ∀ c r, Final.Below (Final.Z m c r) := fun c r => quot_norm_lt _ _ (gq_le m c hpre)
  have eX : ∀ c, RefFinal.X m' c = Final.X m c := fun c => X_eq m m' c (hagree c).1
  have eR : ∀ c, RefFinal.R m' c = Final.R m c := fun c => R_eq m m' c (hagree c).2.1
  have eW : ∀ c, RefFinal.W m' c = Final.W m c := fun c => W_eq m m' c (hagree c).2.2.1
  have eWS : ∀ c, RefFinal.WS m' c = Final.WS m c := fun c => WS_eq m m' c (hagree c).2.2.2.1
  have eGP : ∀ c, RefFinal.GP m' c = Final.GP m c := fun c => GP_eq m m' c (hagree c).2.2.2.2.1
  have eGQ : ∀ c, RefFinal.GQ m' c = Final.GQ m c := fun c => GQ_eq m m' c (hagree c).2.2.2.2.2
  have eH : ∀ c, RefFinal.H m' c = Final.H m c := fun c => by
    funext r; unfold RefFinal.H Final.H; rw [eX, eR, eW, eWS, eGP]
  have eZ : ∀ c, RefFinal.Z m' c = Final.Z m c := fun c => by
    funext r; unfold RefFinal.Z Final.Z; rw [eH, eGQ]
  refine ⟨fun c i => Final.H m c (i 0) (i 1), fun c i => code (Final.X m c (i 0)) (i 1), fun c i => scl (Final.X m c (i 0)),
    fun c i => code (Final.Z m c (i 0)) (i 1), fun c i => scl (Final.Z m c (i 0)), ?_, ?_⟩
  · exact (θ_run KernelIdeal.defs _ _).mono (fun _ h c =>
      ⟨(h c).1.trans (Final.final_h m c (hX c)),
       (h c).2.1.trans (Final.final_xcode m c (hX c)),
       (h c).2.2.1.trans (Final.final_xscale m c (hX c)),
       (h c).2.2.2.1.trans (Final.final_zcode m c (hX c) (hZ c)),
       (h c).2.2.2.2.1.trans (Final.final_zscale m c (hX c) (hZ c)),
       (h c).2.2.2.2.2⟩) (Cert.KernelIdeal.Value.run_blocks m ρ)
  · refine (θ_run ReferenceIdeal.defs _ _).mono (fun _ h c =>
      ⟨(h c).1.trans ((RefFinal.final_h m' c).trans ?_),
       (h c).2.1.trans ((RefFinal.final_xcode m' c).trans ?_),
       (h c).2.2.1.trans ((RefFinal.final_xscale m' c).trans ?_),
       (h c).2.2.2.1.trans ((RefFinal.final_zcode m' c).trans ?_),
       (h c).2.2.2.2.1.trans ((RefFinal.final_zscale m' c).trans ?_),
       (h c).2.2.2.2.2⟩) (Cert.ReferenceIdeal.Value.run_blocks m' ρ')
    · rw [eH]; rfl
    · rw [eX]; rfl
    · rw [eX]; rfl
    · rw [eZ]; rfl
    · rw [eZ]; rfl

end Cert.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite
public import proofs.«01_k».proof.Proof.Gen.KernelIdeal.Value
public import proofs.«01_k».proof.Proof.Gen.ReferenceIdeal.Value
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- `Cert.Claim`: the frames are the generated ones, and hold without the precondition; the ideal kernel differs from the
    kernel only by the named 1/6912; the value claim is Proof/Algebraic.lean's. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ,
    fun m ρ _ => Cert.KernelIdeal.Gen.frame m ρ, fun m ρ _ => Cert.ReferenceIdeal.Gen.frame m ρ,
    fun m ρ _ => Cert.ReferenceIdeal.Gen.frame m ρ, IdealRules.named_const.statement _ _ _ _ _ rfl,
    Cert.Algebraic.algebraic⟩

end Cert.Proof

end
